-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x2048 : Shape := ⟨2, ![2048, 2048]⟩
abbrev S2048x512 : Shape := ⟨2, ![2048, 512]⟩
abbrev S3x512x512 : Shape := ⟨3, ![3, 512, 512]⟩
abbrev S3 : Shape := ⟨1, ![3]⟩
abbrev S_ : Shape := ⟨0, ![]⟩
abbrev S512x512 : Shape := ⟨2, ![512, 512]⟩
abbrev S1x512x512 : Shape := ⟨3, ![1, 512, 512]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x512, .f32⟩
  | .local _ .vmem, ⟨0, _⟩ => ⟨S512x2048, .f32⟩
  | .local _ .vmem, ⟨1, _⟩ => ⟨S2048x2048, .f32⟩
  | .local _ .vmem, ⟨2, _⟩ => ⟨S2048x512, .f32⟩
  | .local _ .vmem, ⟨3, _⟩ => ⟨S512x2048, .bf16⟩
  | .local _ .vmem, ⟨4, _⟩ => ⟨S3x512x512, .bf16⟩
  | .local _ .vmem, ⟨5, _⟩ => ⟨S3x512x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_16 : BitVec 32) : Fin 2 → Nat :=
  let c0_20 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v22 : BitVec 32 := Scalar.addi v2 c1_i32_16
  let c4_i32_17 : BitVec 32 := 4#32
  let v23 : BitVec 32 := Scalar.remsi v22 c4_i32_17
  let c512_i32 : BitVec 32 := 512#32
  let v25 : BitVec 32 := Scalar.muli v23 c512_i32
  let v26 : Index := Scalar.indexCast v25
  ![0, v26.toNat]
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v22 : BitVec 32 := Scalar.addi v2 c1_i32_16
  let c4_i32_17 : BitVec 32 := 4#32
  let v23 : BitVec 32 := Scalar.remsi v22 c4_i32_17
  let c1_i32_28 : BitVec 32 := 1#32
  let v35 : BitVec 32 := Scalar.muli v23 c1_i32_28
  let v36 : BitVec 32 := Scalar.addi c0_i32_29 v35
  v36.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v45 : BitVec 32 := Scalar.addi v2 c2_i32_34
  let c4_i32_35 : BitVec 32 := 4#32
  let v46 : BitVec 32 := Scalar.remsi v45 c4_i32_35
  let c1_i32_47 : BitVec 32 := 1#32
  let v58 : BitVec 32 := Scalar.muli v46 c1_i32_47
  let v59 : BitVec 32 := Scalar.addi c0_i32_48 v58
  v59.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_53 : BitVec 32 := 3#32
  let v68 : BitVec 32 := Scalar.addi v2 c3_i32_53
  let c4_i32_54 : BitVec 32 := 4#32
  let v69 : BitVec 32 := Scalar.remsi v68 c4_i32_54
  let c1_i32_66 : BitVec 32 := 1#32
  let v81 : BitVec 32 := Scalar.muli v69 c1_i32_66
  let v82 : BitVec 32 := Scalar.addi c0_i32_67 v81
  v82.toNat
def k0_off2 (d0 : Dev nD) : Fin 2 → Nat :=
  let c0_75 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_74 : BitVec 32 := 512#32
  let v92 : BitVec 32 := Scalar.muli v2 c512_i32_74
  let v93 : Index := Scalar.indexCast v92
  ![0, v93.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_77 : BitVec 32 := 512#32
  let v98 : BitVec 32 := Scalar.muli v2 c512_i32_77
  let v99 : Index := Scalar.indexCast v98
  let c0_78 : Index := 0#32
  ![v99.toNat, 0]
def k0_off4 (d0 : Dev nD) (c1_i32_79 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v101 : BitVec 32 := Scalar.subi v2 c1_i32_79
  let c4_i32_80 : BitVec 32 := 4#32
  let v102 : BitVec 32 := Scalar.addi v101 c4_i32_80
  let c4_i32_81 : BitVec 32 := 4#32
  let v103 : BitVec 32 := Scalar.remsi v102 c4_i32_81
  let c512_i32_95 : BitVec 32 := 512#32
  let v115 : BitVec 32 := Scalar.muli v103 c512_i32_95
  let v116 : Index := Scalar.indexCast v115
  let c0_96 : Index := 0#32
  ![v116.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Exchange.lean ====
/-
# The exchange: who talks to whom, what travels, and the rounds schedule of the semaphores

Four devices run one kernel. Device `c` holds the rows `512 c … 512 c + 511` of `x` and all of `w`; it computes the
four blocks of its rows against the four column blocks of `w`, keeps the one of its own columns and sends the other
three, narrowed to bf16, to the devices that own those columns. The three copies have numbers `k = 0, 1, 2`: copy `k`
goes to the device `k + 1` places further (`peer c k`), out of slot `k` of the sender's send buffer, into slot `k` of
the target's receive buffer, and counts on the sender's send semaphore `k` and on the target's receive semaphore `k`.

Everything here is stated once for a copy number `k`. Reversing the number (`k.rev`) turns the map around: the copy
`k` that ends on device `c` was sent by `peer c k.rev`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

/-- The device that copy `k` of device `c` goes to. -/
def peer (c : Dev nD) (k : Fin 3) : Dev nD := ⟨(c.val + k.val + 1) % 4, Nat.mod_lt _ (by decide)⟩

theorem peer_peer_rev : ∀ (c : Dev nD) (k : Fin 3), peer (peer c k) k.rev = c := by decide
theorem peer_rev_peer : ∀ (c : Dev nD) (k : Fin 3), peer (peer c k.rev) k = c := by decide
theorem peer_ne : ∀ (c : Dev nD) (k : Fin 3), peer c k ≠ c := by decide

/-- Going to the peer `k` permutes the devices. -/
def turn (k : Fin 3) : Dev nD ≃ Dev nD :=
  ⟨fun c => peer c k, fun c => peer c k.rev, fun c => peer_peer_rev c k, fun c => peer_rev_peer c k⟩

/-- A device is itself or one of the three whose copies it receives. -/
theorem self_or_source : ∀ c d : Dev nD, d = c ∨ d = peer c (0 : Fin 3).rev ∨ d = peer c (1 : Fin 3).rev ∨ d = peer c (2 : Fin 3).rev := by
  decide

theorem eq_peer_iff (c d : Dev nD) (k : Fin 3) : c = peer d k ↔ d = peer c k.rev :=
  ⟨fun h => by rw [h, peer_peer_rev], fun h => by rw [h, peer_rev_peer]⟩

/-! ## The buffers, the slots, the semaphores -/

abbrev xM : Memref sig .tc .vmem S512x2048 .f32 := Memref.whole cc0_stg0_0
abbrev wM : Memref sig .tc .vmem S2048x2048 .f32 := Memref.whole cc0_stg1_0
abbrev oM : Memref sig .tc .vmem S2048x512 .f32 := Memref.whole cc0_stg2_0
abbrev nM : Memref sig .tc .vmem S512x2048 .bf16 := Memref.whole cc0_scratch0
abbrev sM : Memref sig .tc .vmem S3x512x512 .bf16 := Memref.whole cc0_scratch1
abbrev rM : Memref sig .tc .vmem S3x512x512 .bf16 := Memref.whole cc0_scratch2

theorem slot_inb (k : Fin 3) : ∀ a, (![k.val, 0, 0] : Fin 3 → Nat) a + S1x512x512.size a ≤ S3x512x512.size a := by
  revert k; decide

/-- Slot `k` of a three-slot buffer, as a box of it; -/
abbrev slotR (k : Fin 3) : Rect S3x512x512 := Rect.unit (s := S3x512x512) ![k.val, 0, 0] S1x512x512.size (slot_inb k)

/-- and as the two-dimensional view a copy goes through. -/
abbrev slotM (b : Memref sig .tc .vmem S3x512x512 .bf16) (k : Fin 3) : Memref sig .tc .vmem S512x512 .bf16 :=
  (b.slice (slotR k) (fun _ => rfl)).squeeze S512x512 squeezes_S1x512x512_S512x512

/-- The slots are disjoint and fill their buffer. -/
theorem slot_disjoint (k k' : Fin 3) (h : k ≠ k') : Disjoint (slotR k).set (slotR k').set :=
  Ring.lead_disjoint (s := S3x512x512) (NB := 3) (0 : Fin 3) 1 (fun k => ![k.val, 0, 0]) S1x512x512.size slot_inb
    (fun b => (Nat.one_mul _).symm) rfl k k' h
theorem slot_cover : Finset.univ.biUnion (fun k : Fin 3 => (slotR k).set) = Finset.univ :=
  Ring.lead_cover (s := S3x512x512) (NB := 3) (0 : Fin 3) 1 (fun k => ![k.val, 0, 0]) S1x512x512.size slot_inb
    (fun b => (Nat.one_mul _).symm) (by decide) rfl (by decide) rfl

theorem slotM_set_send (k : Fin 3) : (slotM sM k).view.set = (slotR k).set :=
  (View.set_reshape _ _).trans (View.set_slice_whole _ _)
theorem slotM_set_recv (k : Fin 3) : (slotM rM k).view.set = (slotR k).set :=
  (View.set_reshape _ _).trans (View.set_slice_whole _ _)

/-- The barrier semaphore and the three send and three receive semaphores. -/
abbrev barS : Sem sig := (SemArray.scalar (sig.barrier 0 rfl) : Sems sig S_).sem
abbrev sendS (k : Fin 3) : DmaSem sig := ⟨3 + k.val, by have := k.isLt; show 3 + k.val < 9; omega⟩
abbrev recvS (k : Fin 3) : DmaSem sig := ⟨6 + k.val, by have := k.isLt; show 6 + k.val < 9; omega⟩

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- What one copy of a slot counts. -/
abbrev N : ℕ := (slotM rM 0).view.dmaCredit
theorem N_pos : 0 < N := View.dmaCredit_pos _ (by decide)
theorem credit_recv (k : Fin 3) : (slotM rM k).view.dmaCredit = N := rfl
theorem credit_send (k : Fin 3) : (slotM sM k).view.dmaCredit = N := rfl

theorem sendSem_0 : ((cc0_scratch3.slice (Rect.unit (s := S3) ![0] S1.size inb_S3_S1_0)).squeeze S_ squeezes_S1_S_).sem = sendS 0 := rfl
theorem recvSem_2 : ((cc0_scratch4.slice (Rect.unit (s := S3) ![2] S1.size inb_S3_S1_2)).squeeze S_ squeezes_S1_S_).sem = recvS 2 := rfl

/-! ## The algebra -/

/-- The library's copy of the rounds algebra for the staging, and the exchange's own, its duties named by copy numbers. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What the buffers hold -/

/-- The rows of `x` device `c` starts from, and its copy of `w`. -/
def xAt (c : Dev nD) : FVec F S512x2048 .f32 := (win0_0.blk (0 : Fin 1)).view.read (Elt F) (m ((c : Thread nD τ).loc main_arg0))
def wAt (c : Dev nD) : FVec F S2048x2048 .f32 := (win0_1.blk (0 : Fin 1)).view.read (Elt F) (m ((c : Thread nD τ).loc main_arg1))

theorem cols_inb (d : Dev nD) : ∀ a, (![0, 512 * d.val] : Fin 2 → Nat) a + S2048x512.size a ≤ S2048x2048.size a := by
  revert d; decide
theorem rows_inb (d : Dev nD) : ∀ a, (![512 * d.val, 0] : Fin 2 → Nat) a + S512x512.size a ≤ S2048x512.size a := by
  revert d; decide

/-- Column block `d` of `w`, row block `d` of the result buffer. -/
abbrev colsR (d : Dev nD) : Rect S2048x2048 := Rect.unit (s := S2048x2048) ![0, 512 * d.val] S2048x512.size (cols_inb d)
abbrev rowsR (d : Dev nD) : Rect S2048x512 := Rect.unit (s := S2048x512) ![512 * d.val, 0] S512x512.size (rows_inb d)

def colsOf (w : FVec F S2048x2048 .f32) (d : Dev nD) : FVec F S2048x512 .f32 := (wM : Memref sig .tc .vmem S2048x2048 .f32).view.readAt (Elt F) (colsR d).toLoadRect w

/-- The narrowed rows of device `c`; -/
def narrow (c : Dev nD) : FVec F S512x2048 .bf16 := k0_pay1 (xAt m c)
/-- the block device `r` sends to device `d`: its rows against the columns of `d`, in bf16; -/
def sent (r d : Dev nD) : FVec F S1x512x512 .bf16 := k0_pay2 (narrow m r) (colsOf (wAt m r) d)
/-- and row block `r` of the result of device `d`: its own product in place, the others widened from what they sent. -/
def rowBlock (d r : Dev nD) : FVec F S512x512 .f32 :=
  if r = d then k0_pay5 (narrow m d) (colsOf (wAt m d) d) else k0_pay6 (sent m r d)

/-- A row of the result buffer, as a row block and a row in it. -/
abbrev blockOf (i : S2048x512.Idx) : Dev nD := ⟨(i 0).val / 512, by have h : (i 0).val < 2048 := (i 0).isLt; show _ < 4; omega⟩
abbrev within (i : S2048x512.Idx) : S512x512.Idx := fun
  | 0 => ⟨(i 0).val % 512, Nat.mod_lt _ (by decide)⟩
  | 1 => ⟨(i 1).val, (i 1).isLt⟩

/-- The whole result of device `d`. -/
def outAt (d : Dev nD) : FVec F S2048x512 .f32 := fun i => rowBlock m d (blockOf i) (within i)

/-! ## Slots held -/

/-- Slot `k` of the receive buffer of `c`, at contents `f`. -/
def recvPts (c : Dev nD) (k : Fin 3) (f : Buf (Elt F) ((c : Thread nD τ).loc cc0_scratch2)) : sProp 𝕄 :=
  ((c : Thread nD τ).loc cc0_scratch2) ↦[(slotR k).set]{fullShare} f
/-- Slot `k` of the send buffer of `c`, at contents `f`. -/
def sendPts (c : Dev nD) (k : Fin 3) (f : Buf (Elt F) ((c : Thread nD τ).loc cc0_scratch1)) : sProp 𝕄 :=
  ((c : Thread nD τ).loc cc0_scratch1) ↦[(slotR k).set]{fullShare} f

/-- The box of slot `k` reads `v`. -/
abbrev SlotIs (b : Memref sig .tc .vmem S3x512x512 .bf16) (k : Fin 3) (f : b.view.ty.Contents (Elt F)) (v : FVec F S1x512x512 .bf16) : Prop :=
  b.view.readAt (Elt F) (slotR k).toLoadRect f = v

/-- A slot free of contents, and the receive slot holding what its sender put there. -/
def recvFree (c : Dev nD) (k : Fin 3) : sProp 𝕄 := iprop(∃ f, recvPts (F := F) c k f)
def sendFree (c : Dev nD) (k : Fin 3) : sProp 𝕄 := iprop(∃ f, sendPts (F := F) c k f)
def recvFull (c : Dev nD) (k : Fin 3) : sProp 𝕄 := iprop(∃ f, ⌜SlotIs rM k f (sent m (peer c k.rev) c)⌝ ∗ recvPts c k f)

instance recvFree_storable (c : Dev nD) (k : Fin 3) : BI.Storable (upEmb : UEmb _ 𝕄) (recvFree (F := F) c k) := by
  unfold recvFree recvPts; infer_instance
instance sendFree_storable (c : Dev nD) (k : Fin 3) : BI.Storable (upEmb : UEmb _ 𝕄) (sendFree (F := F) c k) := by
  unfold sendFree sendPts; infer_instance
instance recvFull_storable (c : Dev nD) (k : Fin 3) : BI.Storable (upEmb : UEmb _ 𝕄) (recvFull m c k) := by
  unfold recvFull recvPts; infer_instance

/-! ## The schedule -/

/-- What a semaphore is for. -/
inductive Role
  | bar
  | send (k : Fin 3)
  | recv (k : Fin 3)
  | other
  deriving DecidableEq

/-- The role of a semaphore: the barrier, one of the six of the copies, or none of the exchange's. -/
def role : SemLoc sig → Role
  | .reg s => if s = barS then .bar else .other
  | .dma q => if h : 3 ≤ q.val ∧ q.val < 6 then .send ⟨q.val - 3, by omega⟩
      else if h' : 6 ≤ q.val ∧ q.val < 9 then .recv ⟨q.val - 6, by omega⟩ else .other

theorem role_bar : role (.reg barS) = .bar := by decide
theorem role_send : ∀ k : Fin 3, role (.dma (sendS k)) = .send k := by decide
theorem role_recv : ∀ k : Fin 3, role (.dma (recvS k)) = .recv k := by decide

/-- Who pays into a cell of the given role: the three peers into a barrier, one copy into a send or receive cell. -/
def dutiesOf : Role → Finset (Fin 3)
  | .bar => Finset.univ
  | .send k => {k}
  | .recv k => {k}
  | .other => ∅

/-- How much: one unit at a barrier, a slot's worth at the copies' cells. -/
def amountOf : Role → ℕ
  | .bar => 1
  | _ => N

/-- What comes with it. At the barrier of `c`, duty `j` is paid by `peer c j`, who hands over slot `j` of its receive
    buffer, the one copy `j` of `c` will land in. A send cell gives the sent slot back; a receive cell gives the
    received slot. -/
def payloadOf (c : Dev nD) (d : Fin 3) : Role → sProp 𝕄
  | .bar => recvFree (peer c d) d
  | .send k => sendFree c k
  | .recv k => recvFull m c k
  | .other => iprop(emp)

/-- One round for each cell of the exchange. -/
def plan : Rounds.Schedule (GSem nD τ sig) (Fin 3) 𝕄 where
  duties g r := if r = 0 ∧ g.1.2 = .tc then dutiesOf (role g.2) else ∅
  unitless _ := False
  amount g _ _ := amountOf (role g.2)
  payload g _ d := payloadOf m g.1.1 d (role g.2)
  amount_pos g _ _ _ := by
    show 0 < amountOf (role g.2)
    cases role g.2 <;> first | exact Nat.one_pos | exact N_pos

instance plan_storable (g : GSem nD τ sig) (r : ℕ) (d : Fin 3) :
    BI.Storable (upEmb : UEmb _ 𝕄) ((plan m).payload g r d) := by
  show BI.Storable upEmb (payloadOf m g.1.1 d (role g.2))
  cases role g.2 <;> unfold payloadOf <;> infer_instance

section Tables
variable (c : Dev nD) (k : Fin 3)

theorem duties_bar : (plan m).duties (barCell c) 0 = Finset.univ := by
  show (if 0 = 0 ∧ (barCell c).1.2 = .tc then dutiesOf (role (.reg barS)) else ∅) = _
  rw [if_pos ⟨rfl, rfl⟩, role_bar]; rfl
theorem duties_send : (plan m).duties (sendCell c k) 0 = {k} := by
  show (if 0 = 0 ∧ (sendCell c k).1.2 = .tc then dutiesOf (role (.dma (sendS k))) else ∅) = _
  rw [if_pos ⟨rfl, rfl⟩, role_send]; rfl
theorem duties_recv : (plan m).duties (recvCell c k) 0 = {k} := by
  show (if 0 = 0 ∧ (recvCell c k).1.2 = .tc then dutiesOf (role (.dma (recvS k))) else ∅) = _
  rw [if_pos ⟨rfl, rfl⟩, role_recv]; rfl
theorem duties_later (g : GSem nD τ sig) : ∀ r, 1 ≤ r → (plan m).duties g r = ∅ :=
  fun r hr => if_neg fun h => by omega

theorem amount_bar (d : Fin 3) : (plan m).amount (barCell c) 0 d = 1 := by
  show amountOf (role (.reg barS)) = _; rw [role_bar]; rfl
theorem amount_send (d : Fin 3) : (plan m).amount (sendCell c k) 0 d = N := by
  show amountOf (role (.dma (sendS k))) = _; rw [role_send]; rfl
theorem amount_recv (d : Fin 3) : (plan m).amount (recvCell c k) 0 d = N := by
  show amountOf (role (.dma (recvS k))) = _; rw [role_recv]; rfl

theorem expect_bar : (plan m).expect (barCell c) 0 = 3 := by
  unfold Schedule.expect Schedule.amountOf
  rw [duties_bar, Finset.sum_congr rfl fun d _ => amount_bar m c d]; rfl
theorem expect_send : (plan m).expect (sendCell c k) 0 = N := by
  unfold Schedule.expect Schedule.amountOf; rw [duties_send, Finset.sum_singleton, amount_send]
theorem expect_recv : (plan m).expect (recvCell c k) 0 = N := by
  unfold Schedule.expect Schedule.amountOf; rw [duties_recv, Finset.sum_singleton, amount_recv]

theorem payload_bar (d : Fin 3) : (plan m).payload (barCell c) 0 d = recvFree (peer c d) d := by
  show payloadOf m c d (role (.reg barS)) = _; rw [role_bar]; rfl
theorem payload_send (d : Fin 3) : (plan m).payload (sendCell c k) 0 d = sendFree c k := by
  show payloadOf m c d (role (.dma (sendS k))) = _; rw [role_send]; rfl
theorem payload_recv (d : Fin 3) : (plan m).payload (recvCell c k) 0 d = recvFull m c k := by
  show payloadOf m c d (role (.dma (recvS k))) = _; rw [role_recv]; rfl

/-- What a wait for a cell's whole round brings. -/
theorem rest_bar : bigSep ((plan m).duties (barCell c) 0 \ ∅) (fun d => (plan m).payload (barCell c) 0 d)
    = iprop(recvFree (peer c 0) 0 ∗ recvFree (peer c 1) 1 ∗ recvFree (peer c 2) 2) := by
  rw [Finset.sdiff_empty, duties_bar, bigSep_congr fun d _ => payload_bar m c d]
  exact bigSep_univ_eq_bigSepL [0, 1, 2] (by decide) (by decide) _
theorem rest_send : bigSep ((plan m).duties (sendCell c k) 0 \ ∅) (fun d => (plan m).payload (sendCell c k) 0 d) = sendFree c k := by
  rw [Finset.sdiff_empty, duties_send, bigSep_singleton, payload_send]
theorem rest_recv : bigSep ((plan m).duties (recvCell c k) 0 \ ∅) (fun d => (plan m).payload (recvCell c k) 0 d) = recvFull m c k := by
  rw [Finset.sdiff_empty, duties_recv, bigSep_singleton, payload_recv]

end Tables

/-! ## What a device owes -/

/-- The sum of a family over the numbers from `n` on: what is left of it when the first `n` have been paid. -/
def left {M : Type} [AddCommMonoid M] (f : Fin 3 → M) (n : ℕ) : M := ∑ k : Fin 3 with n ≤ k.val, f k

theorem left_step {M : Type} [AddCommMonoid M] (f : Fin 3 → M) (k : Fin 3) : left f k.val = left f (k.val + 1) + f k := by
  have h : (Finset.univ.filter fun j : Fin 3 => k.val ≤ j.val) = insert k (Finset.univ.filter fun j : Fin 3 => k.val + 1 ≤ j.val) := by
    revert k; decide
  unfold left
  rw [h, Finset.sum_insert (by simp), add_comm]
theorem left_zero {M : Type} [AddCommMonoid M] (f : Fin 3 → M) : left f 0 = ∑ k, f k := by
  unfold left; rw [Finset.filter_true_of_mem fun _ _ => Nat.zero_le _]
theorem left_three {M : Type} [AddCommMonoid M] (f : Fin 3 → M) : left f 3 = 0 := by
  unfold left; rw [Finset.filter_false_of_mem fun k _ => by have := k.isLt; omega]; rfl

/-- Device `c` owes each peer's receive cell a slot's worth, and each peer's barrier a unit. -/
def dueRecv (c : Dev nD) (k : Fin 3) : CellTallies nD τ sig Unit := tallyAt (recvCell (peer c k) k) () N
def dueBar (c : Dev nD) (k : Fin 3) : CellTallies nD τ sig Unit := tallyAt (barCell (peer c k)) () 1
def owed (c : Dev nD) : CellTallies nD τ sig Unit := left (dueRecv c) 0 + left (dueBar c) 0

theorem left_pos {f : Fin 3 → CellTallies nD τ sig Unit} {n : ℕ} {g : GSem nD τ sig} {u : Unit} (h : 0 < left f n g u) :
    ∃ k, 0 < f k g u := by
  by_contra hn
  have h0 : ∀ k, f k g u = 0 := fun k => Nat.eq_zero_of_not_pos fun hk => hn ⟨k, hk⟩
  unfold left at h
  rw [Finset.sum_apply, Finsupp.finset_sum_apply, Finset.sum_eq_zero fun k _ => h0 k] at h
  exact Nat.lt_irrefl 0 h

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem recv_of_pos {c : Dev nD} {n : ℕ} {g : GSem nD τ sig} {u : Unit} (h : 0 < left (dueRecv c) n g u) :
    ∃ k, g = recvCell (peer c k) k := by
  obtain ⟨k, hk⟩ := left_pos h; exact ⟨k, tallyAt_pos hk⟩
theorem owed_of_pos {c : Dev nD} {g : GSem nD τ sig} {u : Unit} (h : 0 < owed c g u) :
    (∃ k, g = recvCell (peer c k) k) ∨ ∃ k, g = barCell (peer c k) := by
  unfold owed at h
  rw [Pi.add_apply, Finsupp.add_apply] at h
  rcases Nat.eq_zero_or_pos (left (dueRecv c) 0 g u) with h0 | h0
  · rw [h0, Nat.zero_add] at h
    obtain ⟨k, hk⟩ := left_pos h; exact .inr ⟨k, tallyAt_pos hk⟩
  · exact .inl (recv_of_pos h0)

/-! ## The levels: barrier below receive, everything else at the bottom -/

def levelOf : Role → ℕ
  | .bar => 1
  | .recv _ => 2
  | _ => 0

def L (g : GSem nD τ sig) : Finset Unit := if g.1.2 = .tc then {()} else ∅
def lv (g : GSem nD τ sig) (_ : Unit) : ℕ := levelOf (role g.2)

theorem L_elsewhere (g : GSem nD τ sig) (h : g.1.2 ≠ .tc) : L g = ∅ := if_neg h
theorem level_here (c : Dev nD) (sm : SemLoc sig) (u : Unit) : u ∈ L ((c : Thread nD τ), sm) := by
  unfold L; rw [if_pos rfl]; exact Finset.mem_singleton_self _

/-- A device may wait on a semaphore while every cell it owes stands on a higher level. -/
theorem wait_below (c : Dev nD) (sm : SemLoc sig) (O : CellTallies nD τ sig Unit)
    (h : ∀ g u, 0 < O g u → ∃ d sm', g = ((Dev.tc d : Thread nD τ), sm') ∧ levelOf (role sm) < levelOf (role sm')) :
    (levAts L lv : sProp 𝕄) ⊢ MayWait (c : Thread nD τ) sm () O := by
  refine MayOwe.of_cut (L := L) (lev := lv) (levelOf (role sm)) ?_ ?_ ?_ ?_
  · intro p hp; obtain rfl := Finset.mem_singleton.mp hp; exact level_here _ _ _
  · intro g u hg; obtain ⟨d, sm', rfl, -⟩ := h g u hg; exact level_here _ _ _
  · intro p hp; obtain rfl := Finset.mem_singleton.mp hp; exact le_rfl
  · intro g u hg; obtain ⟨d, sm', rfl, hlt⟩ := h g u hg; exact hlt

/-- So on a semaphore of the bottom level it may wait whatever it still owes of the exchange, -/
theorem wait_bottom (c : Dev nD) (sm : SemLoc sig) (hs : levelOf (role sm) = 0) : (levAts L lv : sProp 𝕄) ⊢ MayWait (c : Thread nD τ) sm () (owed c) := by
  refine wait_below c sm _ fun g u hg => ?_
  rcases owed_of_pos hg with ⟨k, rfl⟩ | ⟨k, rfl⟩
  · exact ⟨_, _, rfl, by rw [hs, role_recv]; exact Nat.succ_pos _⟩
  · exact ⟨_, _, rfl, by rw [hs, role_bar]; decide⟩

/-- and on its barrier while it owes the three copies only. -/
theorem wait_barrier (c : Dev nD) : (levAts L lv : sProp 𝕄) ⊢ MayWait (c : Thread nD τ) (.reg barS) () (left (dueRecv c) 0) := by
  refine wait_below c _ _ fun g u hg => ?_
  obtain ⟨k, rfl⟩ := recv_of_pos hg
  exact ⟨_, _, rfl, by rw [role_bar, role_recv]; exact Nat.lt_succ_self _⟩

end Cert.Exchange

end
-- ==== Proof.Steps.lean ====
/-
# One step of each kind

What the body does three times over is done here once for a copy number `k`: signal a peer, send a block, take a
received block, wait for a sent one. Before that, what loads, stores and copies do to contents.
-/
module

public import proofs.«01_k».proof.Proof.Exchange
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

theorem corner : (![0, 0] : Fin 2 → Nat) = fun _ => 0 := by decide

/-- Loads and stores of a whole buffer. -/
theorem load_x (f : FVec F S512x2048 .f32) :
    (xM : Memref sig .tc .vmem S512x2048 .f32).view.readAt (Elt F) (Rect.unit (s := S512x2048) ![0, 0] S512x2048.size inb_S512x2048_S512x2048_0_0).toLoadRect f = f :=
  Memref.readAt_unit_zero (Elt F) cc0_stg0_0 corner _ f
theorem load_n (f : FVec F S512x2048 .bf16) :
    (nM : Memref sig .tc .vmem S512x2048 .bf16).view.readAt (Elt F) (Rect.unit (s := S512x2048) ![0, 0] S512x2048.size inb_S512x2048_S512x2048_0_0).toLoadRect f = f :=
  Memref.readAt_unit_zero (Elt F) cc0_scratch0 corner _ f
theorem store_n (f w : FVec F S512x2048 .bf16) :
    ((nM : Memref sig .tc .vmem S512x2048 .bf16).access (Rect.unit (s := S512x2048) ![0, 0] S512x2048.size inb_S512x2048_S512x2048_0_0) : View sig .tc _ _ _).write (Elt F) f w Finset.univ = w :=
  Memref.write_access_unit_zero_univ (Elt F) cc0_scratch0 corner _ f w

/-- The two-dimensional view of a slot reads what its box reads, in row-major order. -/
theorem slot_read (b : Memref sig .tc .vmem S3x512x512 .bf16) (k : Fin 3) (f : b.view.ty.Contents (Elt F)) (i : S512x512.Idx) :
    (slotM b k).view.read (Elt F) f i = b.view.readAt (Elt F) (slotR k).toLoadRect f (Shape.reshapeEquiv squeezes_S1x512x512_S512x512.numel_eq i) := rfl

/-- What a copy puts into slot `k` of the receive buffer is what slot `k` of the send buffer read. -/
theorem slot_copied (k : Fin 3) {fs : (cc0_scratch1 : Ref sig .tc).ty.Contents (Elt F)} (fd : (cc0_scratch2 : Ref sig .tc).ty.Contents (Elt F))
    {v : FVec F S1x512x512 .bf16} (h : SlotIs sM k fs v) :
    SlotIs rM k ((slotM rM k).view.write (Elt F) fd ((slotM sM k).view.read (Elt F) fs) Finset.univ) v := by
  have hr : (slotM rM k).view.read (Elt F) ((slotM rM k).view.write (Elt F) fd ((slotM sM k).view.read (Elt F) fs) Finset.univ)
      = (slotM sM k).view.read (Elt F) fs := View.read_write_univ _ _
  refine Eq.trans ?_ h
  funext j
  obtain ⟨i, rfl⟩ := (Shape.reshapeEquiv squeezes_S1x512x512_S512x512.numel_eq).surjective j
  exact (slot_read rM k _ i).symm.trans ((congrFun hr i).trans (slot_read sM k fs i))

/-- A load or store of slot `k` touches the slot's elements only. -/
theorem slot_reach (b : Memref sig .tc .vmem S3x512x512 .bf16) (k : Fin 3) : b.view.setOn (slotR k).toLoadRect.set = (b.access (slotR k)).set :=
  (View.set_slice _ _).symm

/-- A store into slot `k` of the send buffer. -/
theorem slot_stored (k : Fin 3) (f : (cc0_scratch1 : Ref sig .tc).ty.Contents (Elt F)) (w : FVec F S1x512x512 .bf16) :
    SlotIs sM k (((sM : Memref sig .tc .vmem S3x512x512 .bf16).access (slotR k) : View sig .tc _ _ _).write (Elt F) f w Finset.univ) w :=
  View.read_write_univ _ _

/-- The result buffer of `d` holds the row blocks in `B`. -/
def Filled (d : Dev nD) (B : Finset (Dev nD)) (f : FVec F S2048x512 .f32) : Prop := ∀ i, blockOf i ∈ B → f i = outAt m d i

theorem filled_none (d : Dev nD) (f : FVec F S2048x512 .f32) : Filled m d ∅ f := fun _ h => absurd h (Finset.notMem_empty _)
theorem filled_all (d : Dev nD) {f : FVec F S2048x512 .f32} (h : Filled m d Finset.univ f) : f = outAt m d := funext fun i => h i (Finset.mem_univ _)

/-- Storing row block `r` adds it to the ones held. -/
theorem filled_store (d r : Dev nD) {B : Finset (Dev nD)} {f : FVec F S2048x512 .f32} (h : Filled m d B f) :
    Filled m d (insert r B) (((oM : Memref sig .tc .vmem S2048x512 .f32).access (rowsR r) : View sig .tc _ _ _).write (Elt F) f (rowBlock m d r) Finset.univ) := by
  intro i hi
  have hw := View.write_whole_slice_unit (Val := Elt F) cc0_stg2_0 ![512 * r.val, 0] S512x512.size (rows_inb r) f (rowBlock m d r)
  rw [show ((oM : Memref sig .tc .vmem S2048x512 .f32).access (rowsR r) : View sig .tc _ _ _).write (Elt F) f (rowBlock m d r) Finset.univ = _ from hw]
  have h1 : (i 1).val < 512 := (i 1).isLt
  unfold updateSlice
  by_cases hb : blockOf i = r
  · subst hb
    rw [dif_pos]
    · unfold outAt
      congr 1
      funext b; fin_cases b <;> apply Fin.ext
      · show (i 0).val - 512 * ((i 0).val / 512) = (i 0).val % 512; omega
      · show (i 1).val - 0 = (i 1).val; omega
    · intro a; fin_cases a
      · show 512 * ((i 0).val / 512) ≤ (i 0).val ∧ (i 0).val < 512 * ((i 0).val / 512) + 512; omega
      · show 0 ≤ (i 1).val ∧ (i 1).val < 0 + 512; omega
  · rw [dif_neg]
    · exact h i ((Finset.mem_insert.mp hi).resolve_left hb)
    · intro hin
      refine hb (Fin.ext ?_)
      have h0 : 512 * r.val ≤ (i 0).val ∧ (i 0).val < 512 * r.val + 512 := hin 0
      show (i 0).val / 512 = r.val
      omega

theorem rowBlock_own (d : Dev nD) : rowBlock m d d = k0_pay5 (narrow m d) (colsOf (wAt m d) d) := if_pos rfl
theorem rowBlock_peer (d : Dev nD) (k : Fin 3) : rowBlock m d (peer d k.rev) = k0_pay6 (sent m (peer d k.rev) d) := if_neg (peer_ne d k.rev)

/-! ## What the body keeps -/

abbrev 𝒱₀ : Variants := Variants.none

/-- The seven semaphores a device has in the exchange: the barrier, the three send, the three receive. -/
def semAt (i : Fin 7) : SemLoc sig :=
  if h : i = 0 then .reg barS else .dma ⟨2 + i.val, by have := i.isLt; show 2 + i.val < 9; omega⟩

theorem semAt_inj : Function.Injective semAt := by decide
theorem semAt_bar : semAt 0 = .reg barS := by decide
theorem semAt_send : ∀ k : Fin 3, semAt ⟨1 + k.val, by omega⟩ = .dma (sendS k) := by decide
theorem semAt_recv : ∀ k : Fin 3, semAt ⟨4 + k.val, by omega⟩ = .dma (recvS k) := by decide

/-- All cells of the exchange. -/
def cellAt (p : Dev nD × Fin 7) : GSem nD τ sig := ((p.1 : Thread nD τ), semAt p.2)

theorem dev_of_cell {c d : Dev nD} {s s' : SemLoc sig} (h : (((c : Thread nD τ), s) : GSem nD τ sig) = ((d : Thread nD τ), s')) : c = d :=
  congrArg (fun g : GSem nD τ sig => g.1.1) h

theorem cellAt_inj : Function.Injective cellAt := fun p q h => Prod.ext (dev_of_cell h) (semAt_inj (congrArg Prod.snd h))
def exchangeCells : Finset (GSem nD τ sig) := Finset.univ.map ⟨cellAt, cellAt_inj⟩

theorem cell_mem (c : Dev nD) {i : Fin 7} {sm : SemLoc sig} (h : semAt i = sm) : ((c : Thread nD τ), sm) ∈ exchangeCells :=
  Finset.mem_map.mpr ⟨(c, i), Finset.mem_univ _, by subst h; rfl⟩
theorem bar_mem (c : Dev nD) : barCell c ∈ exchangeCells := cell_mem c semAt_bar
theorem send_mem (c : Dev nD) (k : Fin 3) : sendCell c k ∈ exchangeCells := cell_mem c (semAt_send k)
theorem recv_mem (c : Dev nD) (k : Fin 3) : recvCell c k ∈ exchangeCells := cell_mem c (semAt_recv k)

variable (K : GSem nD τ sig → ℕ)

/-- The record of a cell: its invariant, under its name, and that its round is open. -/
def record (g : GSem nD τ sig) : sProp 𝕄 := iprop(cellInv ER (plan m) (K g) g ∗ reached ER g 0)
def records : sProp 𝕄 := bigSep exchangeCells (record m K)

instance record_persistent (g : GSem nD τ sig) : BI.Persistent (record m K g) := by unfold record; infer_instance
instance records_persistent : BI.Persistent (records m K) := by unfold records; infer_instance

theorem record_of {g : GSem nD τ sig} (hg : g ∈ exchangeCells) : records m K ⊢ record m K g := bigSep_elim hg

/-! ## The steps -/

section Steps

variable (c : Dev nD) (k : Fin 3) {α : Type}

/-- The rest of the program running on device `c`. -/
abbrev runs (Q : α → sProp 𝕄) (p : Prog (TpuEff nD τ sig (Elt F) Λ₀ .tc) α) : sProp 𝕄 :=
  wp frame (wpE (defs₀ (F := F)) 𝒱₀ (c : Thread nD τ) none) Set.univ p Q

/-- Signal the peer `k`: it gets slot `k.rev` of this device's receive buffer, in which the peer's copy will land. -/
theorem step_signal {Q : α → sProp 𝕄} {n : Dev nD} (hn : n = peer c k) {a : ℕ} (ha : a = 1) {K' : PUnit → Prog (TpuEff nD τ sig (Elt F) Λ₀ .tc) α} (R : CellTallies nD τ sig Unit) (W : Waits sig Unit) :
    iprop(records m K ∗ recvFree (F := F) c k.rev ∗ dutyTok ER (barCell (peer c k)) 0 k.rev ∗ owes (c : Thread nD τ) (R + left (dueBar c) k.val) W)
      ⊢ iprop((owes (c : Thread nD τ) (R + left (dueBar c) (k.val + 1)) W -∗ runs c Q (K' ⟨⟩))
          -∗ runs c Q (.op (.semSignal (Dev.tc n : Thread nD τ) barS a) K')) := by
  subst hn ha
  iintro ⟨#Hr, Hs, Ht, HO⟩ Hk
  ihave Hg := (record_of m K (bar_mem (peer c k))) $$ Hr
  unfold record
  icases Hg with ⟨#Hi, #Hz⟩
  iapply (Rounds.wp_signal 𝒱₀ ER (plan m) (c : Thread nD τ) none (dst := (peer c k : Thread nD τ)) (κ := K (barCell (peer c k)))
      (d := k.rev) (by rw [duties_bar]; exact Finset.mem_univ _) (amount_bar m (peer c k) k.rev) () (R + left (dueBar c) (k.val + 1))
      (O₀ := R + left (dueBar c) k.val) (by rw [left_step, ← add_assoc]; rfl)) $$ [Hs Ht HO]
  · isplitr; · iexact Hi
    isplitl [HO]; · iexact HO
    isplitl [Ht]; · iexact Ht
    isplitl [Hs]
    · rw [payload_bar, peer_peer_rev]; iexact Hs
    iexact Hz
  iexact Hk

/-- Wait for the three signals: slot `j` of the receive buffer of each peer `j` comes. -/
theorem step_barrier {Q : α → sProp 𝕄} {a : ℕ} (ha : a = 3) {K' : PUnit → Prog (TpuEff nD τ sig (Elt F) Λ₀ .tc) α} (W : Waits sig Unit) :
    iprop(records m K ∗ levAts L lv ∗ cred (tallyAt (barCell c) () 3) ∗ atPos ER (barCell c) 0 ∅ 0 ∗ owes (c : Thread nD τ) (left (dueRecv c) 0) W)
      ⊢ iprop(((owes (c : Thread nD τ) (left (dueRecv c) 0) (insert (SemLoc.reg barS, ()) W) ∗ atPos ER (barCell c) (0 + 1) ∅ 0
              ∗ recvFree (F := F) (peer c 0) 0 ∗ recvFree (F := F) (peer c 1) 1 ∗ recvFree (F := F) (peer c 2) 2) -∗ runs c Q (K' ⟨⟩))
          -∗ runs c Q (.op (.semWait barS a) K')) := by
  subst ha
  iintro ⟨#Hr, #Hl, Hc, Hp, HO⟩ Hk
  ihave Hg := (record_of m K (bar_mem c)) $$ Hr
  unfold record
  icases Hg with ⟨#Hi, #Hz⟩
  iapply (Rounds.wp_wait_rest_token 𝒱₀ ER (plan m) (c : Thread nD τ) none (κ := K (barCell c))
      (wpE_semWait_eq 𝒱₀ (c : Thread nD τ) none Set.univ) (Set.mem_univ _) () (O := left (dueRecv c) 0) (W := W) (R := 0) (m := 0) (T := ∅)
      (by rw [expect_bar])) $$ [Hc Hp HO]
  · isplitr; · iexact Hi
    isplitl [Hc]; · iexact Hc
    isplitl [HO]; · iexact HO
    isplitr; · iapply (wait_barrier c); iexact Hl
    iexact Hp
  iintro ⟨HO, Hp, -, Hpay⟩
  ihave Hpay := (Entails.of_eq (rest_bar m c)) $$ Hpay
  iapply Hk
  isplitl [HO]; · iexact HO
  isplitl [Hp]; · iexact Hp
  iexact Hpay

/-- A wait on a cell of a copy, by any wait counting a slot's worth, owing nothing: the round's payloads come, and the
    cell closes at zero. -/
theorem step_wait {Q : α → sProp 𝕄} {sm : SemLoc sig} (hm : ((c : Thread nD τ), sm) ∈ exchangeCells) (he : (plan m).expect ((c : Thread nD τ), sm) 0 = N)
    {w : TpuEff nD τ sig (Elt F) Λ₀ .tc PUnit} {a : ℕ} (ha : a = N)
    (hw : ∀ K : PUnit → sProp 𝕄, wpE (defs₀ (F := F)) 𝒱₀ (c : Thread nD τ) none Set.univ w K = waitSpec (c : Thread nD τ) Set.univ sm a K)
    {K' : PUnit → Prog (TpuEff nD τ sig (Elt F) Λ₀ .tc) α} (W : Waits sig Unit) :
    iprop(records m K ∗ cred (tallyAt ((c : Thread nD τ), sm) () N) ∗ atPos ER ((c : Thread nD τ), sm) 0 ∅ 0 ∗ owes (c : Thread nD τ) 0 W)
      ⊢ iprop(((owes (c : Thread nD τ) 0 (insert (sm, ()) W) ∗ semVal ((c : Thread nD τ), sm) 0
              ∗ bigSep ((plan m).duties ((c : Thread nD τ), sm) 0 \ ∅) (fun d => (plan m).payload ((c : Thread nD τ), sm) 0 d)) -∗ runs c Q (K' ⟨⟩))
          -∗ runs c Q (.op w K')) := by
  subst ha
  iintro ⟨#Hr, Hc, Hp, HO⟩ Hk
  ihave Hg := (record_of m K hm) $$ Hr
  unfold record
  icases Hg with ⟨#Hi, #Hz⟩
  iapply (Rounds.wp_wait_rest_token 𝒱₀ ER (plan m) (c : Thread nD τ) none (κ := K ((c : Thread nD τ), sm))
      hw (Set.mem_univ _) () (O := 0) (W := W) (R := 0) (m := 0) (T := ∅) (by rw [he, Nat.zero_add])) $$ [Hc Hp HO]
  · isplitr; · iexact Hi
    isplitl [Hc]; · iexact Hc
    isplitl [HO]; · iexact HO
    isplitr; · rw [MayWait_zero]; iempintro
    iexact Hp
  iintro ⟨HO, Hp, -, Hpay⟩
  imod (Rounds.cell_close ER (plan m) (Set.mem_univ (K ((c : Thread nD τ), sm))) (fun h => h) (R := 0 + 1) (duties_later m _)) $$ [Hp] with Hz0
  · isplitr; · iexact Hi
    iexact Hp
  iapply Hk
  isplitl [HO]; · iexact HO
  isplitl [Hz0]; · iexact Hz0
  iexact Hpay

/-- The elements a copy reads are those of its send slot, the ones it writes those of its receive slot. -/
theorem sendPts_view (f : (cc0_scratch1 : Ref sig .tc).ty.Contents (Elt F)) :
    (sendPts c k f : sProp 𝕄) = ((slotM sM k).view.loc (c : Thread nD τ) ↦[(slotM sM k).view.set]{fullShare} f) := by
  rw [slotM_set_send]; rfl
theorem recvPts_view (f : (cc0_scratch2 : Ref sig .tc).ty.Contents (Elt F)) :
    (recvPts c k f : sProp 𝕄) = ((slotM rM k).view.loc (c : Thread nD τ) ↦[(slotM rM k).view.set]{fullShare} f) := by
  rw [slotM_set_recv]; rfl

/-- What the copy leaves: the slot it read, and the slot it wrote, holding the block. -/
theorem copy_read (fs : (cc0_scratch1 : Ref sig .tc).ty.Contents (Elt F)) :
    ((slotM sM k).view.loc (c : Thread nD τ) ↦[(slotM sM k).view.set]{fullShare} fs) ⊢ (plan m).payload (sendCell c k) 0 k := by
  rw [payload_send, ← sendPts_view]
  unfold sendFree
  iintro H; iexists fs; iexact H
theorem copy_written {fs : (cc0_scratch1 : Ref sig .tc).ty.Contents (Elt F)} (fd : (cc0_scratch2 : Ref sig .tc).ty.Contents (Elt F))
    (h : SlotIs sM k fs (sent m c (peer c k))) :
    ((slotM rM k).view.loc (peer c k : Thread nD τ) ↦[(slotM rM k).view.set]{fullShare}
        (slotM rM k).view.write (Elt F) fd ((slotM sM k).view.read (Elt F) fs) Finset.univ)
      ⊢ (plan m).payload (recvCell (peer c k) k) 0 k := by
  rw [payload_recv, ← recvPts_view]
  unfold recvFull
  rw [peer_peer_rev]
  iintro H; iexists _; isplitr
  · ipureintro; exact slot_copied k fd h
  · iexact H

/-- Start copy `k`, the block being in the send slot. -/
theorem step_copy {Q : α → sProp 𝕄} {hsc hsrc hdst hsem} {K' : PUnit → Prog (TpuEff nD τ sig (Elt F) Λ₀ .tc) α} (W : Waits sig Unit)
    {fs : (cc0_scratch1 : Ref sig .tc).ty.Contents (Elt F)} (h : SlotIs sM k fs (sent m c (peer c k))) :
    iprop(records m K ∗ sendPts c k fs ∗ recvFree (F := F) (peer c k) k
        ∗ dutyTok ER (sendCell c k) 0 k ∗ dutyTok ER (recvCell (peer c k) k) 0 k ∗ owes (c : Thread nD τ) (left (dueRecv c) k.val) W)
      ⊢ iprop(((cred (tallyAt (sendCell c k) () N) ∗ owes (c : Thread nD τ) (left (dueRecv c) (k.val + 1)) W) -∗ runs c Q (K' ⟨⟩))
          -∗ runs c Q (.op (.enqueueDma (slotM sM k) (.remote (peer c k : Thread nD τ) (slotM rM k) (.dma (sendS k)) hsc)
                (.dma (recvS k)) hsrc hdst hsem) K')) := by
  iintro ⟨#Hr, Hs, Hd, Ht, Ht', HO⟩ Hk
  ihave Hg := (record_of m K (send_mem c k)) $$ Hr
  ihave Hg' := (record_of m K (recv_mem (peer c k) k)) $$ Hr
  unfold record recvFree
  icases Hg with ⟨#Hi, #Hz⟩
  icases Hg' with ⟨#Hi', #Hz'⟩
  icases Hd with ⟨%fd, Hd⟩
  ihave Hs := (Entails.of_eq (sendPts_view c k fs)) $$ Hs
  ihave Hd := (Entails.of_eq (recvPts_view (peer c k) k fd)) $$ Hd
  iapply (Rounds.wp_send_pointsTo 𝒱₀ ER (plan m) (c : Thread nD τ) none (κ₁ := K (sendCell c k)) (κ₂ := K (recvCell (peer c k) k))
    (c' := (peer c k : Thread nD τ)) (src := slotM sM k) (dst := slotM rM k) (r₁ := 0) (r₂ := 0) (d₁ := k) (d₂ := k) (fs := fs) (fd := fd)
    (by rw [duties_send]; exact Finset.mem_singleton_self _) (by rw [duties_recv]; exact Finset.mem_singleton_self _)
    () () N rfl (amount_send m c k k) (amount_recv m (peer c k) k k) (left (dueRecv c) (k.val + 1)) (left_step _ _) (W := W)
    (copy_read m c k fs) (copy_written m c k fd h)) $$ [Hs Hd Ht Ht' HO]
  · isplitr; · iexact Hi
    isplitr; · iexact Hi'
    isplitl [Hs]; · iexact Hs
    isplitl [Hd]; · iexact Hd
    isplitl [HO]; · iexact HO
    isplitl [Ht]; · iexact Ht
    isplitr; · iexact Hz
    isplitl [Ht']; · iexact Ht'
    iexact Hz'
  iexact Hk

/-- Send block `k`: multiply the narrowed rows with the peer's columns, put the product into slot `k` of the send
    buffer, start the copy. -/
theorem step_send {Q : α → sProp 𝕄} {pay : FVec F S512x2048 .bf16 → FVec F S2048x512 .f32 → FVec F S1x512x512 .bf16} (hpay : pay = k0_pay2)
    {wo : Fin 2 → ℕ} (hwo : wo = ![0, 512 * (peer c k).val]) {wi} {hl}
    {so : Fin 3 → ℕ} (hso : so = ![k.val, 0, 0]) {si} {hl' hx hmk}
    {n : Dev nD} (hn : n = peer c k) {q q' : DmaSem sig} (hq : q = sendS k) (hq' : q' = recvS k) {hsc hsrc hdst hsem}
    {K' : PUnit → Prog (TpuEff nD τ sig (Elt F) Λ₀ .tc) α} (W : Waits sig Unit) :
    iprop(records m K ∗ (((c : Thread nD τ).loc cc0_stg1_0) ↦{fullShare} wAt m c) ∗ sendFree (F := F) c k ∗ recvFree (F := F) (peer c k) k
        ∗ dutyTok ER (sendCell c k) 0 k ∗ dutyTok ER (recvCell (peer c k) k) 0 k ∗ owes (c : Thread nD τ) (left (dueRecv c) k.val) W)
      ⊢ iprop((((((c : Thread nD τ).loc cc0_stg1_0) ↦{fullShare} wAt m c) ∗ cred (tallyAt (sendCell c k) () N)
              ∗ owes (c : Thread nD τ) (left (dueRecv c) (k.val + 1)) W) -∗ runs c Q (K' ⟨⟩))
          -∗ runs c Q (.op (.load (e := .f32) wM (Rect.unit (s := S2048x2048) wo S2048x512.size wi).toLoadRect hl) fun (v : FVec F S2048x512 .f32) =>
              .op (.load sM (Rect.unit (s := S3x512x512) so S1x512x512.size si).toLoadRect hl') fun _ =>
              .op (.store sM (Rect.unit (s := S3x512x512) so S1x512x512.size si) (pay (narrow m c) v) Finset.univ hx hmk) fun _ =>
              .op (.enqueueDma ((sM.slice (Rect.unit (s := S3x512x512) so S1x512x512.size si) (fun _ => rfl)).squeeze S512x512 squeezes_S1x512x512_S512x512)
                (.remote (Dev.tc n : Thread nD τ) ((rM.slice (Rect.unit (s := S3x512x512) so S1x512x512.size si) (fun _ => rfl)).squeeze S512x512 squeezes_S1x512x512_S512x512) (.dma q) hsc)
                (.dma q') hsrc hdst hsem) K')) := by
  subst hpay hwo hso hn hq hq'
  unfold sendFree sendPts
  iintro ⟨#Hr, Hw, ⟨%fs, Hs⟩, Hd, Ht, Ht', HO⟩ Hk
  iapply (wp_load 𝒱₀ (c : Thread nD τ) none Set.univ (m := wM) (Finset.subset_univ _)) $$ Hw; iintro Hw
  iapply (wp_load 𝒱₀ (c : Thread nD τ) none Set.univ (m := sM) (r := (slotR k).toLoadRect) ((slot_reach sM k).trans (View.set_slice_whole _ _)).subset) $$ Hs; iintro Hs
  iapply (wp_store 𝒱₀ (c : Thread nD τ) none Set.univ (m := sM) (r := slotR k) (Mk := Finset.univ) (View.set_slice_whole _ _).subset) $$ Hs; iintro Hs
  iapply (step_copy m K c k W (slot_stored k fs _)) $$ [Hs Hd Ht Ht' HO]
  · isplitr; · iexact Hr
    isplitl [Hs]; · unfold sendPts; iexact Hs
    isplitl [Hd]; · iexact Hd
    isplitl [Ht]; · iexact Ht
    isplitl [Ht'] <;> iassumption
  iintro ⟨Hc, HO⟩
  iapply Hk
  isplitl [Hw]; · iexact Hw
  isplitl [Hc] <;> iassumption

/-- The own block: multiply the narrowed rows with the own columns, store the product in its place. -/
theorem step_own {Q : α → sProp 𝕄} {wo : Fin 2 → ℕ} (hwo : wo = ![0, 512 * c.val]) {wi} {hl} {oo : Fin 2 → ℕ} (hoo : oo = ![512 * c.val, 0]) {oi} {hlo hx hmk}
    {K' : PUnit → Prog (TpuEff nD τ sig (Elt F) Λ₀ .tc) α} :
    iprop((((c : Thread nD τ).loc cc0_stg1_0) ↦{fullShare} wAt m c) ∗ (∃ f, ((c : Thread nD τ).loc cc0_stg2_0) ↦{fullShare} f))
      ⊢ iprop(((((c : Thread nD τ).loc cc0_stg1_0) ↦{fullShare} wAt m c)
              ∗ (∃ f, ⌜Filled m c {c} f⌝ ∗ (((c : Thread nD τ).loc cc0_stg2_0) ↦{fullShare} f)) -∗ runs c Q (K' ⟨⟩))
          -∗ runs c Q (.op (.load (e := .f32) wM (Rect.unit (s := S2048x2048) wo S2048x512.size wi).toLoadRect hl) fun (v : FVec F S2048x512 .f32) =>
              .op (.load oM (Rect.unit (s := S2048x512) oo S512x512.size oi).toLoadRect hlo) fun _ =>
              .op (.store oM (Rect.unit (s := S2048x512) oo S512x512.size oi) (k0_pay5 (narrow m c) v) Finset.univ hx hmk) K')) := by
  subst hwo hoo
  iintro ⟨Hw, ⟨%f, Ho⟩⟩ Hk
  iapply (wp_load 𝒱₀ (c : Thread nD τ) none Set.univ (m := wM) (Finset.subset_univ _)) $$ Hw; iintro Hw
  rw [show (wM : Memref sig .tc .vmem S2048x2048 .f32).view.readAt (Elt F) (colsR c).toLoadRect (wAt m c) = colsOf (wAt m c) c from rfl, ← rowBlock_own]
  iapply (wp_load 𝒱₀ (c : Thread nD τ) none Set.univ (m := oM) (Finset.subset_univ _)) $$ Ho; iintro Ho
  iapply (wp_store 𝒱₀ (c : Thread nD τ) none Set.univ (m := oM) (r := rowsR c) (Mk := Finset.univ) (Finset.subset_univ _)) $$ Ho; iintro Ho
  iapply Hk
  isplitl [Hw]; · iexact Hw
  iexists _
  isplitr; · ipureintro; exact filled_store m c c (filled_none m c f)
  iexact Ho

/-- Take the block that landed in slot `k`: wait for it, widen it, store it as a row block of the result. -/
theorem step_take {Q : α → sProp 𝕄} {pay : FVec F S1x512x512 .bf16 → FVec F S512x512 .f32} (hpay : pay = k0_pay6)
    {oo : Fin 2 → ℕ} (hoo : oo = ![512 * (peer c k.rev).val, 0]) {oi} {hlo hx hmk}
    {so : Fin 3 → ℕ} (hso : so = ![k.val, 0, 0]) {si} {hl} {q : DmaSem sig} (hq : q = recvS k) {hsrc hdst}
    {K' : PUnit → Prog (TpuEff nD τ sig (Elt F) Λ₀ .tc) α} (W : Waits sig Unit) (B : Finset (Dev nD)) :
    iprop(records m K ∗ cred (tallyAt (recvCell c k) () N) ∗ atPos ER (recvCell c k) 0 ∅ 0 ∗ owes (c : Thread nD τ) 0 W
        ∗ (∃ f, ⌜Filled m c B f⌝ ∗ (((c : Thread nD τ).loc cc0_stg2_0) ↦{fullShare} f)))
      ⊢ iprop(((owes (c : Thread nD τ) 0 (insert (SemLoc.dma (recvS k), ()) W) ∗ semVal (recvCell c k) 0 ∗ recvFree (F := F) c k
              ∗ (∃ f, ⌜Filled m c (insert (peer c k.rev) B) f⌝ ∗ (((c : Thread nD τ).loc cc0_stg2_0) ↦{fullShare} f))) -∗ runs c Q (K' ⟨⟩))
          -∗ runs c Q (.op (.waitDma2 q ((sM.slice (Rect.unit (s := S3x512x512) so S1x512x512.size si) (fun _ => rfl)).squeeze S512x512 squeezes_S1x512x512_S512x512)
                ((rM.slice (Rect.unit (s := S3x512x512) so S1x512x512.size si) (fun _ => rfl)).squeeze S512x512 squeezes_S1x512x512_S512x512) hsrc hdst) fun _ =>
              .op (.load (e := .bf16) rM (Rect.unit (s := S3x512x512) so S1x512x512.size si).toLoadRect hl) fun (v : FVec F S1x512x512 .bf16) =>
              .op (.load oM (Rect.unit (s := S2048x512) oo S512x512.size oi).toLoadRect hlo) fun _ =>
              .op (.store oM (Rect.unit (s := S2048x512) oo S512x512.size oi) (pay v) Finset.univ hx hmk) K')) := by
  subst hpay hoo hso hq
  iintro ⟨#Hr, Hc, Hp, HO, ⟨%f, %hf, Ho⟩⟩ Hk
  iapply (step_wait m K c (recv_mem c k) (expect_recv m c k) (credit_recv k) (wpE_waitDma2_eq 𝒱₀ (c : Thread nD τ) none Set.univ) W) $$ [Hc Hp HO]
  · isplitr; · iexact Hr
    isplitl [Hc]; · iexact Hc
    isplitl [Hp]; · iexact Hp
    iexact HO
  iintro ⟨HO, Hz, Hpay⟩
  ihave Hpay := (Entails.of_eq (rest_recv m c k)) $$ Hpay
  unfold recvFull recvPts
  icases Hpay with ⟨%g, %hg, Hs⟩
  iapply (wp_load 𝒱₀ (c : Thread nD τ) none Set.univ (m := rM) (r := (slotR k).toLoadRect) ((slot_reach rM k).trans (View.set_slice_whole _ _)).subset) $$ Hs; iintro Hs
  rw [show (rM : Memref sig .tc .vmem S3x512x512 .bf16).view.readAt (Elt F) (slotR k).toLoadRect g = _ from hg, ← rowBlock_peer]
  iapply (wp_load 𝒱₀ (c : Thread nD τ) none Set.univ (m := oM) (Finset.subset_univ _)) $$ Ho; iintro Ho
  iapply (wp_store 𝒱₀ (c : Thread nD τ) none Set.univ (m := oM) (r := rowsR (peer c k.rev)) (Mk := Finset.univ) (Finset.subset_univ _)) $$ Ho; iintro Ho
  iapply Hk
  isplitl [HO]; · iexact HO
  isplitl [Hz]; · iexact Hz
  isplitl [Hs]; · unfold recvFree recvPts; iexists _; iexact Hs
  iexists _
  isplitr; · ipureintro; exact filled_store m c (peer c k.rev) hf
  iexact Ho

/-- Wait for the copy out of slot `k` of the send buffer: the slot comes back. -/
theorem step_sent {Q : α → sProp 𝕄} {so : Fin 3 → ℕ} (hso : so = ![k.val, 0, 0]) {si} {q : DmaSem sig} (hq : q = sendS k) {hsrc hdst}
    {K' : PUnit → Prog (TpuEff nD τ sig (Elt F) Λ₀ .tc) α} (W : Waits sig Unit) :
    iprop(records m K ∗ cred (tallyAt (sendCell c k) () N) ∗ atPos ER (sendCell c k) 0 ∅ 0 ∗ owes (c : Thread nD τ) 0 W)
      ⊢ iprop(((owes (c : Thread nD τ) 0 (insert (SemLoc.dma (sendS k), ()) W) ∗ semVal (sendCell c k) 0 ∗ sendFree (F := F) c k) -∗ runs c Q (K' ⟨⟩))
          -∗ runs c Q (.op (.waitDma2 q ((rM.slice (Rect.unit (s := S3x512x512) so S1x512x512.size si) (fun _ => rfl)).squeeze S512x512 squeezes_S1x512x512_S512x512)
                ((sM.slice (Rect.unit (s := S3x512x512) so S1x512x512.size si) (fun _ => rfl)).squeeze S512x512 squeezes_S1x512x512_S512x512) hsrc hdst) K')) := by
  subst hso hq
  have h := step_wait m K c (Q := Q) (K' := K') (send_mem c k) (expect_send m c k) (credit_send k)
    (wpE_waitDma2_eq (src := slotM rM k) (dst := slotM sM k) (hsrc := hsrc) (hdst := hdst) (sem := sendS k) 𝒱₀ (c : Thread nD τ) none Set.univ) W
  rw [rest_send] at h
  exact h

end Steps

end Cert.Exchange

end
-- ==== Proof.Body.lean ====
/-
# The body of the kernel

The body of device `c`, run from what the launch gives it to the whole result of `c` in the result buffer, every
semaphore of the exchange at zero and the scratch buffers whole again.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem three (Φ : Fin 3 → sProp 𝕄) : bigSep Finset.univ Φ = iprop(Φ 0 ∗ Φ 1 ∗ Φ 2) :=
  bigSep_univ_eq_bigSepL [0, 1, 2] (by decide) (by decide) Φ

/-! ## The buffers cut into slots and put together -/

theorem send_cut (c : Dev nD) :
    (iprop(∃ f : Buf (Elt F) ((c : Thread nD τ).loc cc0_scratch1), ((c : Thread nD τ).loc cc0_scratch1) ↦{fullShare} f) : sProp 𝕄)
      ⊢ bigSep Finset.univ fun k : Fin 3 => sendFree (F := F) c k := by
  have h1 (f : Buf (Elt F) ((c : Thread nD τ).loc cc0_scratch1)) (k : Fin 3) :
      (((c : Thread nD τ).loc cc0_scratch1) ↦[(slotR k).set]{fullShare} f : sProp 𝕄) ⊢ sendFree (F := F) c k := by
    unfold sendFree sendPts; iintro H; iexists f; iexact H
  have h (f : Buf (Elt F) ((c : Thread nD τ).loc cc0_scratch1)) :
      (bigSep Finset.univ fun k : Fin 3 => (((c : Thread nD τ).loc cc0_scratch1) ↦[(slotR k).set]{fullShare} f : sProp 𝕄))
        ⊢ bigSep Finset.univ fun k : Fin 3 => sendFree (F := F) c k :=
    bigSep_mono fun k _ => h1 f k
  iintro ⟨%f, H⟩
  iapply (h f)
  iapply (Entails.of_eq (Ring.pointsTo_blocks (fun k : Fin 3 => (slotR k).set) slot_disjoint slot_cover f))
  iexact H

theorem recv_cut (c : Dev nD) :
    (iprop(∃ f : Buf (Elt F) ((c : Thread nD τ).loc cc0_scratch2), ((c : Thread nD τ).loc cc0_scratch2) ↦{fullShare} f) : sProp 𝕄)
      ⊢ bigSep Finset.univ fun k : Fin 3 => recvFree (F := F) c k := by
  have h1 (f : Buf (Elt F) ((c : Thread nD τ).loc cc0_scratch2)) (k : Fin 3) :
      (((c : Thread nD τ).loc cc0_scratch2) ↦[(slotR k).set]{fullShare} f : sProp 𝕄) ⊢ recvFree (F := F) c k := by
    unfold recvFree recvPts; iintro H; iexists f; iexact H
  have h (f : Buf (Elt F) ((c : Thread nD τ).loc cc0_scratch2)) :
      (bigSep Finset.univ fun k : Fin 3 => (((c : Thread nD τ).loc cc0_scratch2) ↦[(slotR k).set]{fullShare} f : sProp 𝕄))
        ⊢ bigSep Finset.univ fun k : Fin 3 => recvFree (F := F) c k :=
    bigSep_mono fun k _ => h1 f k
  iintro ⟨%f, H⟩
  iapply (h f)
  iapply (Entails.of_eq (Ring.pointsTo_blocks (fun k : Fin 3 => (slotR k).set) slot_disjoint slot_cover f))
  iexact H

include m in
theorem send_joined (c : Dev nD) :
    (bigSep Finset.univ fun k : Fin 3 => sendFree (F := F) c k)
      ⊢ (iprop(∃ f : Buf (Elt F) ((c : Thread nD τ).loc cc0_scratch1), ((c : Thread nD τ).loc cc0_scratch1) ↦{fullShare} f) : sProp 𝕄) := by
  unfold sendFree sendPts
  exact Ring.pointsTo_blocks_join_exists (ℓ := (c : Thread nD τ).loc cc0_scratch1) (fun k : Fin 3 => (slotR k).set) slot_disjoint slot_cover (m _)

include m in
theorem recv_joined (c : Dev nD) :
    (bigSep Finset.univ fun k : Fin 3 => recvFree (F := F) c k)
      ⊢ (iprop(∃ f : Buf (Elt F) ((c : Thread nD τ).loc cc0_scratch2), ((c : Thread nD τ).loc cc0_scratch2) ↦{fullShare} f) : sProp 𝕄) := by
  unfold recvFree recvPts
  exact Ring.pointsTo_blocks_join_exists (ℓ := (c : Thread nD τ).loc cc0_scratch2) (fun k : Fin 3 => (slotR k).set) slot_disjoint slot_cover (m _)

/-! ## Before and after -/

/-- What device `c` holds of the exchange alone: its positions, and the tokens of what it pays. -/
def share (c : Dev nD) : sProp 𝕄 :=
  iprop(atPos ER (barCell c) 0 ∅ 0
    ∗ (bigSep Finset.univ fun k : Fin 3 => atPos ER (sendCell c k) 0 ∅ 0) ∗ (bigSep Finset.univ fun k : Fin 3 => atPos ER (recvCell c k) 0 ∅ 0)
    ∗ (bigSep Finset.univ fun k : Fin 3 => dutyTok ER (barCell (peer c k)) 0 k.rev)
    ∗ (bigSep Finset.univ fun k : Fin 3 => dutyTok ER (sendCell c k) 0 k) ∗ (bigSep Finset.univ fun k : Fin 3 => dutyTok ER (recvCell (peer c k) k) 0 k))

/-- What it starts from: the records and that; what the others owe its barrier and its receive cells; the levels. -/
def start (c : Dev nD) : sProp 𝕄 :=
  iprop((∃ K, records m K ∗ share (F := F) c) ∗ cred (tallyAt (barCell c) () 3)
    ∗ (bigSep Finset.univ fun k : Fin 3 => cred (tallyAt (recvCell c k) () N)) ∗ levAts L lv)

/-- The scratch buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The semaphores of the exchange at zero. -/
def settled (c : Dev nD) : sProp 𝕄 :=
  iprop(semVal (barCell c) 0 ∗ (bigSep Finset.univ fun k : Fin 3 => semVal (sendCell c k) 0) ∗ (bigSep Finset.univ fun k : Fin 3 => semVal (recvCell c k) 0))

/-- The contents before and after the one point of the grid. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => outAt m c
  Φ t := match t with
    | ⟨0, _⟩ => iprop(start m c ∗ scratch (F := F) c)
    | ⟨_ + 1, _⟩ => iprop(settled (F := F) c ∗ scratch (F := F) c)
  q _ := fullShare
  owed t := match t with
    | ⟨0, _⟩ => owed c
    | ⟨_ + 1, _⟩ => 0

/-! ## The body -/

theorem dev_peer (c : Dev nD) (k : Fin 3) {n : ℕ} {h : n < nD} (e : n = (c.val + k.val + 1) % 4) : (⟨n, h⟩ : Dev nD) = peer c k := Fin.ext e

theorem copies_paid (c : Dev nD) (W : Waits sig Unit) :
    (owes (c : Thread nD τ) (left (dueRecv c) ((2 : Fin 3).val + 1)) W : sProp 𝕄) ⊢ owes (c : Thread nD τ) 0 W :=
  Entails.of_eq (congrArg (fun O => (owes (c : Thread nD τ) O W : sProp 𝕄)) (left_three (dueRecv c)))

theorem off4_peer (c : Dev nD) (k : Fin 3) : k0_off4 c (BitVec.ofNat 32 (1 + k.val)) = ![512 * (peer c k.rev).val, 0] := by
  have h : (c.val + 3 - k.val) % 4 = (peer c k.rev).val := by revert c k; decide
  rw [k0_off4_eq, h]

/-- The three signals sent, the three copies are owed still. -/
theorem signals_paid (c : Dev nD) (W : Waits sig Unit) :
    (owes (c : Thread nD τ) (left (dueRecv c) 0 + left (dueBar c) ((2 : Fin 3).val + 1)) W : sProp 𝕄) ⊢ owes (c : Thread nD τ) (left (dueRecv c) 0) W :=
  Entails.of_eq (congrArg (fun O => (owes (c : Thread nD τ) O W : sProp 𝕄)) ((congrArg (left (dueRecv c) 0 + ·) (left_three (dueBar c))).trans (add_zero _)))

/-- The own block and the three received ones are the whole result. -/
theorem all_blocks (c : Dev nD) : (insert (peer c (2 : Fin 3).rev) (insert (peer c (1 : Fin 3).rev) (insert (peer c (0 : Fin 3).rev) {c})) : Finset (Dev nD)) = Finset.univ := by
  revert c; decide

set_option maxHeartbeats 2000000 in
theorem body_run (K : GSem nD τ sig → ℕ) (c : Dev nD) (W : Waits sig Unit) (Kt : PUnit → sProp 𝕄) :
    iprop((records m K ∗ share (F := F) c ∗ cred (tallyAt (barCell c) () 3) ∗ (bigSep Finset.univ fun k : Fin 3 => cred (tallyAt (recvCell c k) () N)) ∗ levAts L lv)
        ∗ scratch (F := F) c ∗ owes (c : Thread nD τ) (owed c) W
        ∗ (((c : Thread nD τ).loc cc0_stg0_0) ↦{fullShare} xAt m c) ∗ (((c : Thread nD τ).loc cc0_stg1_0) ↦{fullShare} wAt m c)
        ∗ (∃ f, ((c : Thread nD τ).loc cc0_stg2_0) ↦{fullShare} f)
        ∗ ((settled (F := F) c ∗ scratch (F := F) c ∗ (∃ W', owes (c : Thread nD τ) 0 W')
          ∗ (((c : Thread nD τ).loc cc0_stg0_0) ↦{fullShare} xAt m c) ∗ (((c : Thread nD τ).loc cc0_stg1_0) ↦{fullShare} wAt m c)
          ∗ (((c : Thread nD τ).loc cc0_stg2_0) ↦{fullShare} outAt m c)) -∗ Kt ⟨⟩))
      ⊢ runs c Kt (cc0_body (F := F) xM (Memref.isWhole_whole _) wM (Memref.isWhole_whole _) oM (Memref.isWhole_whole _)
            nM (Memref.isWhole_whole _) sM (Memref.isWhole_whole _) rM (Memref.isWhole_whole _) cc0_scratch3 cc0_scratch4) := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp (proj := false) only [semSignalWord, semWaitWord, Prog.lift, Prog.bind_op, Prog.bind_ret, Prog.pure_eq_ret, wp_deviceId]
  unfold share scratch owed
  simp only [three]
  iintro ⟨⟨#Hr, ⟨HpB, ⟨HpS0, HpS1, HpS2⟩, ⟨HpR0, HpR1, HpR2⟩, ⟨HtB0, HtB1, HtB2⟩, ⟨HtS0, HtS1, HtS2⟩, HtR0, HtR1, HtR2⟩, HcB, ⟨HcR0, HcR1, HcR2⟩, #Hl⟩,
    ⟨⟨%fn, Hn⟩, Hs, Hv⟩, HO, Hx, Hw, ⟨%fo, Ho⟩, Hk⟩
  ihave Hs := (send_cut (F := F) c) $$ Hs
  ihave Hs := (Entails.of_eq (three (F := F) _)) $$ Hs
  icases Hs with ⟨Hs0, Hs1, Hs2⟩
  ihave Hv := (recv_cut (F := F) c) $$ Hv
  ihave Hv := (Entails.of_eq (three (F := F) _)) $$ Hv
  icases Hv with ⟨Hv0, Hv1, Hv2⟩
  -- the three signals, each with a slot of the receive buffer, and the wait for the peers' three
  iapply (step_signal m K c 0 (dev_peer c 0 (k0_dev1_eq c)) rfl (left (dueRecv c) 0) W) $$ [Hv2 HtB0 HO]
  · isplitr; · iexact Hr
    isplitl [Hv2]; · iexact Hv2
    isplitl [HtB0]; · iexact HtB0
    iexact HO
  iintro HO
  iapply (step_signal m K c 1 (dev_peer c 1 (k0_dev2_eq c)) rfl (left (dueRecv c) 0) W) $$ [Hv1 HtB1 HO]
  · isplitr; · iexact Hr
    isplitl [Hv1]; · iexact Hv1
    isplitl [HtB1]; · iexact HtB1
    iexact HO
  iintro HO
  iapply (step_signal m K c 2 (dev_peer c 2 (k0_dev3_eq c)) rfl (left (dueRecv c) 0) W) $$ [Hv0 HtB2 HO]
  · isplitr; · iexact Hr
    isplitl [Hv0]; · iexact Hv0
    isplitl [HtB2]; · iexact HtB2
    iexact HO
  iintro HO
  ihave HO := (signals_paid c W) $$ HO
  iapply (step_barrier m K c rfl W) $$ [HcB HpB HO]
  · isplitr; · iexact Hr
    isplitr; · iexact Hl
    isplitl [HcB]; · iexact HcB
    isplitl [HpB]; · iexact HpB
    iexact HO
  iintro ⟨HO, HpB, Hd0, Hd1, Hd2⟩
  -- the rows, narrowed
  iapply (wp_load 𝒱₀ (c : Thread nD τ) none Set.univ (m := xM) (Finset.subset_univ _)) $$ Hx; iintro Hx
  rw [load_x]
  iapply (wp_load 𝒱₀ (c : Thread nD τ) none Set.univ (m := nM) (Finset.subset_univ _)) $$ Hn; iintro Hn
  iapply (wp_store 𝒱₀ (c : Thread nD τ) none Set.univ (m := nM) (r := Rect.unit (s := S512x2048) ![0, 0] S512x2048.size inb_S512x2048_S512x2048_0_0) (Mk := Finset.univ) (Finset.subset_univ _)) $$ Hn; iintro Hn
  rw [store_n, ← narrow]
  iapply (wp_load 𝒱₀ (c : Thread nD τ) none Set.univ (m := nM) (Finset.subset_univ _)) $$ Hn; iintro Hn
  rw [load_n]
  -- the three copies
  iapply (step_send m K c 0 rfl (k0_off1_eq c 0) rfl (dev_peer c 0 (k0_dev4_eq c)) rfl rfl (insert (SemLoc.reg barS, ()) W)) $$ [Hw Hs0 Hd0 HtS0 HtR0 HO]
  · isplitr; · iexact Hr
    isplitl [Hw]; · iexact Hw
    isplitl [Hs0]; · iexact Hs0
    isplitl [Hd0]; · iexact Hd0
    isplitl [HtS0]; · iexact HtS0
    isplitl [HtR0]; · iexact HtR0
    iexact HO
  iintro ⟨Hw, HcS0, HO⟩
  iapply (wp_load 𝒱₀ (c : Thread nD τ) none Set.univ (m := nM) (Finset.subset_univ _)) $$ Hn; iintro Hn
  rw [load_n]
  iapply (step_send m K c 1 rfl (k0_off1_eq c 1) rfl (dev_peer c 1 (k0_dev5_eq c)) rfl rfl (insert (SemLoc.reg barS, ()) W)) $$ [Hw Hs1 Hd1 HtS1 HtR1 HO]
  · isplitr; · iexact Hr
    isplitl [Hw]; · iexact Hw
    isplitl [Hs1]; · iexact Hs1
    isplitl [Hd1]; · iexact Hd1
    isplitl [HtS1]; · iexact HtS1
    isplitl [HtR1]; · iexact HtR1
    iexact HO
  iintro ⟨Hw, HcS1, HO⟩
  iapply (wp_load 𝒱₀ (c : Thread nD τ) none Set.univ (m := nM) (Finset.subset_univ _)) $$ Hn; iintro Hn
  rw [load_n]
  iapply (step_send m K c 2 rfl (k0_off1_eq c 2) rfl (dev_peer c 2 (k0_dev6_eq c)) rfl rfl (insert (SemLoc.reg barS, ()) W)) $$ [Hw Hs2 Hd2 HtS2 HtR2 HO]
  · isplitr; · iexact Hr
    isplitl [Hw]; · iexact Hw
    isplitl [Hs2]; · iexact Hs2
    isplitl [Hd2]; · iexact Hd2
    isplitl [HtS2]; · iexact HtS2
    isplitl [HtR2]; · iexact HtR2
    iexact HO
  iintro ⟨Hw, HcS2, HO⟩
  ihave HO := (copies_paid c (insert (SemLoc.reg barS, ()) W)) $$ HO
  -- the own block
  iapply (wp_load 𝒱₀ (c : Thread nD τ) none Set.univ (m := nM) (Finset.subset_univ _)) $$ Hn; iintro Hn
  rw [load_n]
  iapply (step_own m c (k0_off2_eq c) (k0_off3_eq c)) $$ [Hw Ho]
  · isplitl [Hw]; · iexact Hw
    iexists fo; iexact Ho
  iintro ⟨Hw, Ho⟩
  -- the three received blocks
  iapply (step_take m K c 0 rfl (off4_peer c 0) rfl rfl _ _) $$ [HcR0 HpR0 HO Ho]
  · isplitr; · iexact Hr
    isplitl [HcR0]; · iexact HcR0
    isplitl [HpR0]; · iexact HpR0
    isplitl [HO]; · iexact HO
    iexact Ho
  iintro ⟨HO, HzR0, Hv0, Ho⟩
  iapply (step_take m K c 1 rfl (off4_peer c 1) rfl rfl _ _) $$ [HcR1 HpR1 HO Ho]
  · isplitr; · iexact Hr
    isplitl [HcR1]; · iexact HcR1
    isplitl [HpR1]; · iexact HpR1
    isplitl [HO]; · iexact HO
    iexact Ho
  iintro ⟨HO, HzR1, Hv1, Ho⟩
  iapply (step_take m K c 2 rfl (off4_peer c 2) rfl rfl _ _) $$ [HcR2 HpR2 HO Ho]
  · isplitr; · iexact Hr
    isplitl [HcR2]; · iexact HcR2
    isplitl [HpR2]; · iexact HpR2
    isplitl [HO]; · iexact HO
    iexact Ho
  iintro ⟨HO, HzR2, Hv2, Ho⟩
  -- the three sent ones
  iapply (step_sent m K c 0 rfl rfl _) $$ [HcS0 HpS0 HO]
  · isplitr; · iexact Hr
    isplitl [HcS0]; · iexact HcS0
    isplitl [HpS0]; · iexact HpS0
    iexact HO
  iintro ⟨HO, HzS0, Hs0⟩
  iapply (step_sent m K c 1 rfl rfl _) $$ [HcS1 HpS1 HO]
  · isplitr; · iexact Hr
    isplitl [HcS1]; · iexact HcS1
    isplitl [HpS1]; · iexact HpS1
    iexact HO
  iintro ⟨HO, HzS1, Hs1⟩
  iapply (step_sent m K c 2 rfl rfl _) $$ [HcS2 HpS2 HO]
  · isplitr; · iexact Hr
    isplitl [HcS2]; · iexact HcS2
    isplitl [HpS2]; · iexact HpS2
    iexact HO
  iintro ⟨HO, HzS2, Hs2⟩
  -- the barrier's cell is closed, the buffers are whole again
  ihave Hg := (record_of m K (bar_mem c)) $$ Hr
  unfold record
  icases Hg with ⟨#Hi, -⟩
  imod (Rounds.cell_close ER (plan m) (Set.mem_univ (K (barCell c))) (fun h => h) (R := 0 + 1) (duties_later m _)) $$ [HpB] with HzB
  · isplitr; · iexact Hi
    iexact HpB
  icases Ho with ⟨%f, %hf, Ho⟩
  rw [all_blocks] at hf
  obtain rfl := filled_all m c hf
  rw [wp_ret]; imodintro
  iapply Hk
  unfold settled
  simp only [three]
  isplitl [HzB HzS0 HzS1 HzS2 HzR0 HzR1 HzR2]
  · isplitl [HzB]; · iexact HzB
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [Hn Hs0 Hs1 Hs2 Hv0 Hv1 Hv2]
  · isplitl [Hn]; · iexists _; iexact Hn
    isplitl [Hs0 Hs1 Hs2]
    · iapply (send_joined m c); rw [three]
      isplitl [Hs0]; · iexact Hs0
      isplitl [Hs1]; · iexact Hs1
      iexact Hs2
    · iapply (recv_joined m c); rw [three]
      isplitl [Hv0]; · iexact Hv0
      isplitl [Hv1]; · iexact Hv1
      iexact Hv2
  isplitl [HO]; · iexists _; iexact HO
  isplitl [Hx]; · iexact Hx
  isplitl [Hw]; · iexact Hw
  iexact Ho

end Cert.Exchange

end
-- ==== Proof.Launch.lean ====
/-
# The launch

What the launch hands each device: the records of all cells of the exchange, the device's positions in its own seven
cells, and the tokens of the nine duties it pays, which are minted with the cells they belong to and dealt to the
devices that pay them. Then the run of the program from any memory with its counters at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The obligation of the one point of the grid -/

/-- A whole buffer owned at contents `X` is its points-to at `X`. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Stage `b` at contents `X`, as the grid's loop holds it. -/
def stage (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stage_in (c : Dev nD) (b : Ref sig .tc) (X : b.ty.Contents (Elt F)) : (((c : Thread nD τ).loc b) ↦{fullShare} X : sProp 𝕄) ⊢ stage c b X := by
  unfold stage; iintro H; iexists _; isplitr; · (ipureintro; rfl)
  iexact H
theorem stage_out (c : Dev nD) (b : Ref sig .tc) (X : b.ty.Contents (Elt F)) : stage c b X ⊢ (((c : Thread nD τ).loc b) ↦{fullShare} X : sProp 𝕄) := by
  unfold stage; iintro ⟨%f, %h, H⟩; subst h; iexact H

theorem before_x (c : Dev nD) (d) : (dats m 0 c).before (0 : Fin 3) t0_0 d = xAt m c := if_pos (fetch0_0 _)
theorem before_w (c : Dev nD) (d) : (dats m 0 c).before (1 : Fin 3) t0_0 d = wAt m c := if_pos (fetch0_1 _)

theorem body_obligation (c : Dev nD) : BodyObligation (dats m 0 c) (defs₀ (F := F)) 𝒱₀ () Set.univ := fun t => by
  rw [fin_N0 t, bigSep_W0, bigSep_W0]
  simp only [owns_buffer]
  show iprop((start m c ∗ scratch (F := F) c) ∗ (dats m 0 c).owesAt () t0_0.castSucc
      ∗ (∃ d, stage c cc0_stg0_0 ((dats m 0 c).before (0 : Fin 3) t0_0 d)) ∗ (∃ d, stage c cc0_stg1_0 ((dats m 0 c).before (1 : Fin 3) t0_0 d))
      ∗ (∃ d, stage c cc0_stg2_0 ((dats m 0 c).before (2 : Fin 3) t0_0 d)))
    ⊢ runs c (fun _ => iprop((settled (F := F) c ∗ scratch (F := F) c) ∗ (dats m 0 c).owesAt () t0_0.succ
        ∗ stage c cc0_stg0_0 (xAt m c) ∗ stage c cc0_stg1_0 (wAt m c) ∗ stage c cc0_stg2_0 (outAt m c)))
      (cc0_body (F := F) xM (Memref.isWhole_whole _) wM (Memref.isWhole_whole _) oM (Memref.isWhole_whole _)
        nM (Memref.isWhole_whole _) sM (Memref.isWhole_whole _) rM (Memref.isWhole_whole _) cc0_scratch3 cc0_scratch4)
  unfold start Dat.owesAt Pipeline.owesWithin
  iintro ⟨⟨⟨⟨%K, Hr, Hsh⟩, HcB, HcR, Hl⟩, Hscr⟩, ⟨%W, -, HO⟩, ⟨%d0, Hx⟩, ⟨%d1, Hw⟩, ⟨%d2, Ho⟩⟩
  ihave Hx := (stage_out c cc0_stg0_0 _) $$ Hx
  ihave Hw := (stage_out c cc0_stg1_0 _) $$ Hw
  ihave Ho := (stage_out c cc0_stg2_0 _) $$ Ho
  rw [before_x, before_w]
  iapply (body_run m K c W _)
  isplitl [Hr Hsh HcB HcR Hl]
  · isplitl [Hr]; · iexact Hr
    isplitl [Hsh]; · iexact Hsh
    isplitl [HcB]; · iexact HcB
    isplitl [HcR]; · iexact HcR
    iexact Hl
  isplitl [Hscr]; · iexact Hscr
  isplitl [HO]; · iexact HO
  isplitl [Hx]; · iexact Hx
  isplitl [Hw]; · iexact Hw
  isplitl [Ho]; · iexists _; iexact Ho
  iintro ⟨Hz, Hscr, ⟨%W', HO⟩, Hx, Hw, Ho⟩
  isplitl [Hz Hscr]
  · isplitl [Hz]; · iexact Hz
    iexact Hscr
  isplitl [HO]
  · iexists W'
    isplitr; · ipureintro; exact fun _ _ => Or.inl trivial
    iexact HO
  isplitl [Hx]; · iapply (stage_in c cc0_stg0_0); iexact Hx
  isplitl [Hw]; · iapply (stage_in c cc0_stg1_0); iexact Hw
  iapply (stage_in c cc0_stg2_0); iexact Ho

/-! ## The cells and the tokens at launch -/

/-- The kernel's own semaphores, the three send and the three receive ones. -/
def osem (i : Fin 6) : SemLoc sig := .dma ⟨3 + i.val, by have := i.isLt; show 3 + i.val < 9; omega⟩
theorem ownSemFacts : Pipeline.OwnSemFacts cfg0.spec osem := by decide

/-- The cell, of a device's seven, that the token `q` belongs to: three of the barrier, one of each other cell. -/
def cellOfTok (q : Fin 3 × Fin 3) : Fin 7 :=
  match q.2 with
  | 0 => 0
  | 1 => ⟨1 + q.1.val, by omega⟩
  | 2 => ⟨4 + q.1.val, by omega⟩

theorem cellOfTok_inj : Function.Injective fun q : Fin 3 × Fin 3 => (cellOfTok q, q.1) := by decide

def tokAt (p : Dev nD × (Fin 3 × Fin 3)) : GSem nD τ sig × ℕ × Fin 3 := (cellAt (p.1, cellOfTok p.2), 0, p.2.1)

theorem tokAt_inj : Function.Injective tokAt := fun p q h => by
  have h1 : (p.1, cellOfTok p.2) = (q.1, cellOfTok q.2) := cellAt_inj (congrArg Prod.fst h)
  exact Prod.ext (congrArg (fun x : Dev nD × Fin 7 => x.1) h1) (cellOfTok_inj (Prod.ext (congrArg (fun x : Dev nD × Fin 7 => x.2) h1) (congrArg (fun x => x.2.2) h)))

def exchangeToks : Finset (GSem nD τ sig × ℕ × Fin 3) := Finset.univ.map ⟨tokAt, tokAt_inj⟩

def u₀ : UU := (initOf (Pipeline.cells cfgs cellOf_inj) (Pipeline.launchToks cfgs cellOf_inj), initOf exchangeCells exchangeToks)

/-- Something of each cell of the exchange, device by device. -/
theorem cells_split (Φ : GSem nD τ sig → sProp 𝕄) :
    bigSep exchangeCells Φ = bigSep Finset.univ fun c : Dev nD => bigSep Finset.univ fun i : Fin 7 => Φ (cellAt (c, i)) := by
  unfold exchangeCells; rw [bigSep_map, bigSep_univ_prod]; rfl

/-- Something of each of a device's seven cells: of the barrier, of the three send cells, of the three receive cells. -/
theorem seven (c : Dev nD) (Φ : GSem nD τ sig → sProp 𝕄) :
    (bigSep Finset.univ fun i : Fin 7 => Φ (cellAt (c, i)))
      = iprop(Φ (barCell c) ∗ (bigSep Finset.univ fun k : Fin 3 => Φ (sendCell c k)) ∗ (bigSep Finset.univ fun k : Fin 3 => Φ (recvCell c k))) := by
  rw [bigSep_univ_eq_bigSepL [0, 1, 2, 3, 4, 5, 6] (by decide) (by decide)]
  simp only [three]
  refine Entails.antisymm ?_ ?_
  · show iprop(Φ (barCell c) ∗ Φ (sendCell c 0) ∗ Φ (sendCell c 1) ∗ Φ (sendCell c 2) ∗ Φ (recvCell c 0) ∗ Φ (recvCell c 1) ∗ Φ (recvCell c 2)) ⊢ _
    iintro ⟨H0, H1, H2, H3, H4, H5, H6⟩
    isplitl [H0]; · iexact H0
    isplitl [H1 H2 H3]
    · isplitl [H1]; · iexact H1
      isplitl [H2]; · iexact H2
      iexact H3
    · isplitl [H4]; · iexact H4
      isplitl [H5]; · iexact H5
      iexact H6
  · show _ ⊢ iprop(Φ (barCell c) ∗ Φ (sendCell c 0) ∗ Φ (sendCell c 1) ∗ Φ (sendCell c 2) ∗ Φ (recvCell c 0) ∗ Φ (recvCell c 1) ∗ Φ (recvCell c 2))
    iintro ⟨H0, ⟨H1, H2, H3⟩, H4, H5, H6⟩
    isplitl [H0]; · iexact H0
    isplitl [H1]; · iexact H1
    isplitl [H2]; · iexact H2
    isplitl [H3]; · iexact H3
    isplitl [H4]; · iexact H4
    isplitl [H5]; · iexact H5
    iexact H6

/-- Each device passed on to its peer `k`, each `k` to `f k`. -/
def turns (f : Fin 3 ≃ Fin 3) : Dev nD × Fin 3 ≃ Dev nD × Fin 3 where
  toFun p := (peer p.1 p.2, f p.2)
  invFun p := (peer p.1 (f.symm p.2).rev, f.symm p.2)
  left_inv p := Prod.ext (by show peer (peer p.1 p.2) (f.symm (f p.2)).rev = p.1; rw [Equiv.symm_apply_apply, peer_peer_rev]) (Equiv.symm_apply_apply f _)
  right_inv p := Prod.ext (by show peer (peer p.1 (f.symm p.2).rev) (f.symm p.2) = p.1; rw [peer_rev_peer]) (Equiv.apply_symm_apply f _)

/-- What is held of every device and every `k` may be held at every device's peer `k`, with `f k` for `k`. -/
theorem pass_on (f : Fin 3 ≃ Fin 3) (Φ : Dev nD × Fin 3 → sProp 𝕄) :
    (bigSep Finset.univ fun c : Dev nD => bigSep Finset.univ fun k : Fin 3 => Φ (c, k))
      = bigSep Finset.univ fun c : Dev nD => bigSep Finset.univ fun k : Fin 3 => Φ (peer c k, f k) := by
  rw [← bigSep_univ_prod, bigSep_univ_equiv (turns f), bigSep_univ_prod]; rfl

/-- The tokens by the devices that pay. -/
theorem tokens_dealt :
    bigSep exchangeToks (fun x => (dutyTok ER x.1 x.2.1 x.2.2 : sProp 𝕄))
      = iprop((bigSep Finset.univ fun c : Dev nD => bigSep Finset.univ fun k : Fin 3 => dutyTok ER (barCell (peer c k)) 0 k.rev)
        ∗ (bigSep Finset.univ fun c : Dev nD => bigSep Finset.univ fun k : Fin 3 => dutyTok ER (sendCell c k) 0 k)
        ∗ (bigSep Finset.univ fun c : Dev nD => bigSep Finset.univ fun k : Fin 3 => dutyTok ER (recvCell (peer c k) k) 0 k)) := by
  have hB : (bigSep Finset.univ fun c : Dev nD => bigSep Finset.univ fun k : Fin 3 => (dutyTok ER (barCell c) 0 k : sProp 𝕄))
      = bigSep Finset.univ fun c : Dev nD => bigSep Finset.univ fun k : Fin 3 => dutyTok ER (barCell (peer c k)) 0 k.rev :=
    pass_on Fin.revPerm fun p => dutyTok ER (barCell p.1) 0 p.2
  have hR : (bigSep Finset.univ fun c : Dev nD => bigSep Finset.univ fun k : Fin 3 => (dutyTok ER (recvCell c k) 0 k : sProp 𝕄))
      = bigSep Finset.univ fun c : Dev nD => bigSep Finset.univ fun k : Fin 3 => dutyTok ER (recvCell (peer c k) k) 0 k :=
    pass_on (Equiv.refl _) fun p => dutyTok ER (recvCell p.1 p.2) 0 p.2
  rw [← hB, ← hR, ← bigSep_sep', ← bigSep_sep']
  unfold exchangeToks
  rw [bigSep_map, bigSep_univ_prod]
  refine bigSep_congr fun c _ => ?_
  rw [bigSep_univ_prod, ← bigSep_sep', ← bigSep_sep']
  refine bigSep_congr fun k _ => ?_
  rw [three]
  match k with | 0 => rfl | 1 => rfl | 2 => rfl

/-- What the launch hands device `c`: its cells' round states, that their rounds are open, and the device's share. -/
def G (c : Dev nD) : sProp 𝕄 :=
  iprop((bigSep Finset.univ fun i : Fin 7 => roundState ER (plan m) (cellAt (c, i)) 0)
    ∗ (bigSep Finset.univ fun i : Fin 7 => reached ER (cellAt (c, i)) 0) ∗ share (F := F) c)

/-- What the cells' invariants make of it. -/
def G' (c : Dev nD) : sProp 𝕄 := iprop(∃ K, records m K ∗ share (F := F) c)

theorem shares :
    iprop((bigSep exchangeCells fun g => (atPos ER g 0 ∅ 0 : sProp 𝕄)) ∗ bigSep exchangeToks fun x => (dutyTok ER x.1 x.2.1 x.2.2 : sProp 𝕄))
      ⊢ bigSep Finset.univ fun c : Dev nD => share (F := F) c := by
  have h (c : Dev nD) := seven (F := F) c fun g => atPos ER g 0 ∅ 0
  rw [cells_split, tokens_dealt, bigSep_congr fun c _ => h c]
  unfold share
  simp only [bigSep_sep']
  iintro ⟨⟨H0, H1, H2⟩, H3⟩
  isplitl [H0]; · iexact H0
  isplitl [H1]; · iexact H1
  isplitl [H2]; · iexact H2
  iexact H3

theorem fund_exchange : BI.own (ER (initOf exchangeCells exchangeToks)) ⊢ (|==> bigSep Finset.univ (G m) : sProp 𝕄) := by
  iintro HX
  imod (Rounds.fund ER (plan m) exchangeCells exchangeToks) $$ HX with ⟨Hst, Hr, Hat, Htok⟩
  imodintro
  ihave Hsh := (shares (F := F)) $$ [Hat Htok]
  · isplitl [Hat]; · iexact Hat
    iexact Htok
  ihave Hst := (Entails.of_eq (cells_split (F := F) fun g => roundState ER (plan m) g 0)) $$ Hst
  ihave Hr := (Entails.of_eq (cells_split (F := F) fun g => reached ER g 0)) $$ Hr
  unfold G; simp only [bigSep_sep']
  isplitl [Hst]; · iexact Hst
  isplitl [Hr]; · iexact Hr
  iexact Hsh

theorem ownSems_list (c : Dev nD) : (Pipeline.ownSems0 (Ix := Unit) (Name := ℕ) (U := UU) (Lvl := ℕ) (Val := Elt F) (τ := τ) osem c : sProp 𝕄)
    = iprop((bigSep Finset.univ fun k : Fin 3 => semVal (sendCell c k) 0) ∗ (bigSep Finset.univ fun k : Fin 3 => semVal (recvCell c k) 0)) := by
  rw [Pipeline.ownSems0_eq_of_list c osem [0, 1, 2, 3, 4, 5] (by decide) (by decide), three, three]
  refine Entails.antisymm ?_ ?_
  · show iprop(semVal (sendCell c 0) 0 ∗ semVal (sendCell c 1) 0 ∗ semVal (sendCell c 2) 0 ∗ semVal (recvCell c 0) 0 ∗ semVal (recvCell c 1) 0 ∗ semVal (recvCell c 2) 0) ⊢ _
    iintro ⟨H1, H2, H3, H⟩
    isplitl [H1 H2 H3]
    · isplitl [H1]; · iexact H1
      isplitl [H2]; · iexact H2
      iexact H3
    · iexact H
  · show _ ⊢ iprop(semVal (sendCell c 0) 0 ∗ semVal (sendCell c 1) 0 ∗ semVal (sendCell c 2) 0 ∗ semVal (recvCell c 0) 0 ∗ semVal (recvCell c 1) 0 ∗ semVal (recvCell c 2) 0)
    iintro ⟨⟨H1, H2, H3⟩, H⟩
    isplitl [H1]; · iexact H1
    isplitl [H2]; · iexact H2
    isplitl [H3]; · iexact H3
    iexact H

/-- The barrier's semaphore is the one that outlives the kernel. -/
theorem unscopedSems_list (c : Dev nD) : (unscopedSems0 c : sProp 𝕄) = semVal (barCell c) 0 := by
  unfold unscopedSems0; rw [bigSep_eq_bigSepL_of_eq [SemLoc.reg barS] (by decide) (by decide)]; rfl

theorem counters (c : Dev nD) :
    iprop(Pipeline.ownSems0 (Ix := Unit) (Name := ℕ) (U := UU) (Lvl := ℕ) (Val := Elt F) (τ := τ) osem c ∗ unscopedSems0 c ∗ G m c)
      ⊢ iprop((bigSep Finset.univ fun i : Fin 7 => iprop(semVal (cellAt (c, i)) 0 ∗ roundState ER (plan m) (cellAt (c, i)) 0))
          ∗ (bigSep Finset.univ fun i : Fin 7 => reached ER (cellAt (c, i)) 0) ∗ share (F := F) c) := by
  rw [ownSems_list, unscopedSems_list, bigSep_sep', seven c fun g => (semVal g 0 : sProp 𝕄)]
  unfold G
  iintro ⟨⟨HS, HR⟩, HB, Hst, Hre, Hsh⟩
  isplitl [HS HR HB Hst]
  · isplitl [HS HR HB]
    · isplitl [HB]; · iexact HB
      isplitl [HS]; · iexact HS
      iexact HR
    · iexact Hst
  isplitl [Hre]; · iexact Hre
  iexact Hsh

theorem each_share {K : GSem nD τ sig → ℕ} (c : Dev nD) : iprop(records m K ∗ share (F := F) c) ⊢ G' m c := by
  unfold G'; iintro H; iexists K; iexact H

theorem shares_recorded (K : GSem nD τ sig → ℕ) :
    iprop(records m K ∗ bigSep Finset.univ fun c : Dev nD => share (F := F) c) ⊢ bigSep Finset.univ (G' m) := by
  have h1 : records m K ⊢ bigSep Finset.univ fun _ : Dev nD => records m K := BI.bigSep_of_persistent _ _
  have h2 : iprop((bigSep Finset.univ fun _ : Dev nD => records m K) ∗ bigSep Finset.univ fun c : Dev nD => share (F := F) c) ⊢ bigSep Finset.univ (G' m) := by
    rw [← bigSep_sep']; exact bigSep_mono fun c _ => each_share m c
  exact (sep_mono_left h1).trans h2

/-- All counters and round states at once become the records of all cells, which every device gets. -/
theorem records_made :
    iprop((bigSep exchangeCells fun g => iprop(semVal g 0 ∗ roundState ER (plan m) g 0)) ∗ (bigSep exchangeCells fun g => (reached ER g 0 : sProp 𝕄))
        ∗ bigSep Finset.univ fun c : Dev nD => share (F := F) c)
      ⊢ |={Set.univ}=> bigSep Finset.univ (G' m) := by
  iintro ⟨Hc, #Hre, Hsh⟩
  ihave Hc := (show _ ⊢ bigSep exchangeCells (Rounds.body ER (plan m)) from bigSep_mono fun g _ => Rounds.body_intro ER (plan m) g) $$ Hc
  imod (inv_alloc_family exchangeCells (Rounds.body ER (plan m)) ∅ (E := Set.univ)) $$ Hc with ⟨%K, -, #HI⟩
  imodintro
  have h : iprop((bigSep exchangeCells fun g => inv (K g) (Rounds.body ER (plan m) g)) ∗ bigSep exchangeCells fun g => (reached ER g 0 : sProp 𝕄)) ⊢ records m K := by
    rw [← bigSep_sep']; exact Entails.refl _
  ihave #Hrec := h $$ [HI Hre]
  · isplitr; · iexact HI
    iexact Hre
  iapply (shares_recorded m K)
  isplitr; · iexact Hrec
  iexact Hsh

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine (bigSep_mono fun c _ => counters m c).trans ?_
  have h := records_made m
  rw [cells_split (F := F) fun g => iprop(semVal g 0 ∗ roundState ER (plan m) g 0), cells_split (F := F) fun g => reached ER g 0, ← bigSep_sep', ← bigSep_sep'] at h
  exact h

/-! ## What the devices owe one another -/

/-- Each device owes its peer `k` alike, so each device is owed it once. -/
theorem owed_once (k : Fin 3) (s s' : SemLoc sig) (n : ℕ) (c : Dev nD) :
    ∑ d : Dev nD, (tallyAt ((peer d k : Thread nD τ), s) () n : CellTallies nD τ sig Unit) ((c : Thread nD τ), s') () = if s' = s then n else 0 := by
  refine (Equiv.sum_comp (turn k) fun d : Dev nD => (tallyAt ((d : Thread nD τ), s) () n : CellTallies nD τ sig Unit) ((c : Thread nD τ), s') ()).trans ?_
  rw [Finset.sum_eq_single c]
  · rw [tallyAt_apply]
    by_cases h : s' = s
    · subst h; rw [if_pos ⟨rfl, rfl⟩, if_pos rfl]
    · rw [if_neg fun h' => h (congrArg Prod.snd h'.1), if_neg h]
  · intro d _ hd
    rw [tallyAt_apply, if_neg fun h' => hd (dev_of_cell h'.1).symm]
  · exact fun h => absurd (Finset.mem_univ _) h

theorem owed_parts (d : Dev nD) (g : GSem nD τ sig) : owed d g () = (∑ k, dueRecv d k g ()) + ∑ k, dueBar d k g () := by
  unfold owed
  rw [left_zero, left_zero, Pi.add_apply, Finsupp.add_apply, Finset.sum_apply, Finset.sum_apply, Finsupp.finsetSum_apply, Finsupp.finsetSum_apply]

/-- What a device is owed on one of its semaphores. -/
theorem owed_at (c : Dev nD) (s : SemLoc sig) :
    ∑ d, owed d ((c : Thread nD τ), s) () = (∑ k : Fin 3, if s = .dma (recvS k) then N else 0) + ∑ _k : Fin 3, if s = .reg barS then 1 else 0 := by
  simp only [owed_parts, Finset.sum_add_distrib]
  rw [Finset.sum_comm, Finset.sum_comm (f := fun d k => dueBar d k _ ())]
  exact congrArg₂ (· + ·) (Finset.sum_congr rfl fun k _ => owed_once k _ _ _ _) (Finset.sum_congr rfl fun k _ => owed_once k _ _ _ _)

theorem credit_at (c : Dev nD) (s : SemLoc sig) (n : ℕ) (h : ∑ d, owed d ((c : Thread nD τ), s) () = n) :
    tallyOn ((c : Thread nD τ), s) (launchCredit (Pipeline.owing owed) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

theorem owed_bar (c : Dev nD) : ∑ d, owed d (barCell c) () = 3 := by
  rw [owed_at]
  simp only [reduceCtorEq, if_true, if_false, Finset.sum_const, Finset.card_univ, Fintype.card_fin, smul_eq_mul]
theorem owed_recv (c : Dev nD) (k : Fin 3) : ∑ d, owed d (recvCell c k) () = N := by
  rw [owed_at, Finset.sum_eq_single k (fun j _ hj => if_neg fun h => hj ((by decide : ∀ a b : Fin 3, (SemLoc.dma (recvS a) : SemLoc sig) = .dma (recvS b) → b = a) _ _ h))
    fun h => absurd (Finset.mem_univ _) h, if_pos rfl]
  simp only [reduceCtorEq, if_false, Finset.sum_const_zero, add_zero]

/-- The semaphores a device is owed units on. -/
def owedSems : Finset (SemLoc sig) := insert (.reg barS) (Finset.univ.map ⟨fun k : Fin 3 => .dma (recvS k), by decide⟩)

theorem credits (c : Dev nD) :
    (Pipeline.launchCred owed c : sProp 𝕄)
      ⊢ iprop(cred (tallyAt (barCell c) () 3) ∗ bigSep Finset.univ fun k : Fin 3 => cred (tallyAt (recvCell c k) () N)) := by
  unfold Pipeline.launchCred
  refine (bigSep_subset (Finset.subset_univ owedSems)).trans ?_
  unfold owedSems
  rw [bigSep_insert (by decide), bigSep_map, credit_at c _ 3 (owed_bar c)]
  simp only [Function.Embedding.coeFn_mk, fun k => credit_at (c := c) (.dma (recvS k)) N (owed_recv c k)]
  exact Entails.refl _

/-! ## The run -/

variable (ρ : Dev nD → PrngReg)

theorem share_whole (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ G' m c)
      ⊢ |={Set.univ}=> iprop(start m c ∗ emp) := by
  iintro ⟨-, Hl, Hc, -, HG⟩
  ihave Hc := (credits (F := F) c) $$ Hc
  icases Hc with ⟨HcB, HcR⟩
  imodintro
  unfold start G'
  isplitl
  · isplitl [HG]; · iexact HG
    isplitl [HcB]; · iexact HcB
    isplitl [HcR]; · iexact HcR
    iexact Hl
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scopedRest0_eq]
  unfold scratch
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(settled (F := F) c ∗ scratch (F := F) c) from rfl, scopedRest0_eq, ownSems_list, unscopedSems_list]
  unfold settled scratch
  iintro ⟨⟨HB, HS, HR⟩, Hr⟩
  isplitl [HB]; · iexact HB
  isplitl [HS HR]
  · isplitl [HS]; · iexact HS
    iexact HR
  iexact Hr

/-- The windows' own waits stand below all that is owed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact wait_bottom c _ (by fin_cases w <;> fin_cases s <;> decide)
    · show _ ⊢ MayWait (c : Thread nD τ) _ () 0
      rw [MayWait_zero]; iintro -; iempintro

/-- The final contents of a window's array. -/
def final (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = final m c w

set_option maxRecDepth 8000 in
/-- From any memory with its counters at zero, every fair execution ends, with the arrays at their final contents and
    every counter at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_whole m)
    (hdistinct := winFacts0.arr_inj)
    (O₀ := owed) (howed₀ := fun _ => rfl) (howedN := fun _ => rfl)
    (L := L) (lv := lv) (hL := L_elsewhere) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Value.lean ====
/-
# The value

Over the reals with both infinities a change of format is the identity, so a block a device sends is the plain product of
its rows of `x` with the receiver's columns of `w`, the same sum as in the block it keeps. Row block `r` of the result of
device `d` is therefore the product of row block `r` of the whole `x` with column block `d` of `w`: device `d` ends with
column block `d` of the whole product.
-/
module

public import proofs.«01_k».proof.Proof.Launch
public import proofs.«01_k».proof.Proof.Gen.ReferenceIdeal
public import Idealize.ShloMosaic.Lib.Pointwise
public import Idealize.ShloMosaic.Lib.Layout

@[expose] public section

noncomputable section

namespace Cert.Exchange

open Cert.KernelIdeal Cert.KernelIdeal.Gen

open Idealize.ShloMosaic Idealize.ShloMosaic.TcCoe
open Idealize.SL.Sem
open Idealize.ShloMosaic.Pipeline (Dat)

/-! ## The arrays, for any float values -/

section Arrays

variable {F : FTy → Type} [FloatOps F]
variable (m : (ℓ : Loc nD τ sig) → Buf (Elt F) ℓ)

/-- Each window has one block, the whole array: read through it an array is itself. -/
theorem xAt_eq (c : Dev nD) : xAt m c = m ((c : Thread nD τ).loc main_arg0) := by
  funext i
  unfold xAt
  rw [View.read_apply]
  exact congrArg (m ((c : Thread nD τ).loc main_arg0)) (funext fun a => Fin.ext (by
    show 0 * S512x2048.size a + 1 * (i a).val = (i a).val
    omega))

theorem wAt_eq (c : Dev nD) : wAt m c = m ((c : Thread nD τ).loc main_arg1) := by
  funext i
  unfold wAt
  rw [View.read_apply]
  exact congrArg (m ((c : Thread nD τ).loc main_arg1)) (funext fun a => Fin.ext (by
    show 0 * S2048x2048.size a + 1 * (i a).val = (i a).val
    omega))

/-- Where the result's block puts an index: at the same one. -/
theorem out_emb (t : Fin cfg0.N) (i : S2048x512.Idx) : ((cfg0.win 2).blk t).view.emb i = i :=
  funext fun a => Fin.ext (by
    show 0 * S2048x512.size a + 1 * (i a).val = (i a).val
    omega)

theorem out_flushed (c : Dev nD) (t : Fin cfg0.N) :
    (dats m 0 c).flushed 2 t = ((cfg0.win 2).blk t).view.read (Elt F) (outAt m c) := by
  funext i
  rw [View.read_apply]
  exact congrArg (outAt m c) (out_emb t i).symm

theorem out_cover (i : S2048x512.Idx) :
    ∃ t : Fin cfg0.N, (cfg0.win 2).flush t = true ∧ i ∈ ((cfg0.win 2).blk t).view.set :=
  ⟨t0_0, flush0_2 _, by
    have h := View.emb_mem_set ((cfg0.win 2).blk t0_0).view i
    rwa [out_emb t0_0 i] at h⟩

/-- What the three arrays of device `c` end with: the arguments as they were, the result the blocks it assembled. -/
theorem final_x (c : Dev nD) : final m c (0 : Fin 3) = m ((c : Thread nD τ).loc main_arg0) :=
  (dats m 0 c).arrAt_in (0 : Fin 3) rfl _
theorem final_w (c : Dev nD) : final m c (1 : Fin 3) = m ((c : Thread nD τ).loc main_arg1) :=
  (dats m 0 c).arrAt_in (1 : Fin 3) rfl _
theorem final_out (c : Dev nD) : final m c (2 : Fin 3) = outAt m c :=
  (dats m 0 c).arrAt_eq_of_cover (2 : Fin 3) (outAt m c) (fun t _ => out_flushed m c t) out_cover

/-- The run, read at the arrays. -/
theorem run_arrays (ρ : Dev nD → PrngReg) :
    θ_run defs (onTc (τ := τ) (main (F := F))) ⟨m, fun _ => 0, ρ⟩ fun r =>
      (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ h => ⟨fun c => ⟨(h.1 c (2 : Fin 3)).trans (final_out m c),
    (h.1 c (0 : Fin 3)).trans (final_x m c), (h.1 c (1 : Fin 3)).trans (final_w m c)⟩, h.2⟩) (run_main m ρ)

/-- Column block `d` of `w`, at an index. -/
theorem colsOf_apply (w : FVec F S2048x2048 .f32) (d : Dev nD) (j : S2048x512.Idx) :
    colsOf w d j = w (Idealize.ShloMosaic.ix2 (j 0) ⟨512 * d.val + (j 1).val, by
      have h : (j 1).val < 512 := (j 1).isLt
      have h' : d.val < 4 := d.isLt
      omega⟩) := by
  unfold colsOf
  rw [View.readAt_apply, View.read_apply]
  refine congrArg w (funext fun a => Fin.ext ?_)
  match a with
  | 0 => show 0 + 1 * (j 0).val = (j 0).val; omega
  | 1 => show 512 * d.val + 1 * (j 1).val = 512 * d.val + (j 1).val; omega

end Arrays

/-! ## The blocks over the reals -/

theorem own_apply (x : FVec Ideal S512x2048 .bf16) (w : FVec Ideal S2048x512 .f32) (j : S512x512.Idx) :
    k0_pay5 (F := Ideal) x w j = ∑ k : Fin 2048, x (ix2 (j 0) k) * w (ix2 k (j 1)) := by
  pointwise [k0_pay5]

theorem sent_apply (x : FVec Ideal S512x2048 .bf16) (w : FVec Ideal S2048x512 .f32) (j : S512x512.Idx) :
    k0_pay6 (F := Ideal) (k0_pay2 (F := Ideal) x w) j = ∑ k : Fin 2048, x (ix2 (j 0) k) * w (ix2 k (j 1)) := by
  pointwise [k0_pay6, k0_pay2]

theorem narrow_apply (x : FVec Ideal S512x2048 .f32) (j : S512x2048.Idx) : k0_pay1 (F := Ideal) x j = x j := by
  pointwise [k0_pay1]

/-- Kept or sent, row block `r` of the result of device `d` is the product of the rows of device `r` with the columns of
    device `d`, as long as both hold the same `w`. -/
theorem rowBlock_apply (m : (ℓ : Loc nD τ sig) → Buf (Elt Ideal) ℓ) (W : FVec Ideal S2048x2048 .f32)
    (hw : ∀ c, wAt m c = W) (d r : Dev nD) (j : S512x512.Idx) :
    rowBlock m d r j = ∑ k : Fin 2048, xAt m r (ix2 (j 0) k) * colsOf W d (ix2 k (j 1)) := by
  unfold rowBlock
  split_ifs with h
  · subst h
    rw [own_apply, hw]
    exact Finset.sum_congr rfl fun k _ => congrArg (· * _) (narrow_apply _ _)
  · unfold sent
    rw [sent_apply, hw]
    exact Finset.sum_congr rfl fun k _ => congrArg (· * _) (narrow_apply _ _)

/-- The product of the whole arrays, as the reference writes it. -/
abbrev product (X W : FVec Ideal S2048x2048 .f32) : FVec Ideal S2048x2048 .f32 :=
  Host.dotGeneral Cert.ReferenceIdeal.dot_S2048x2048_S2048x2048_S2048x2048_1_0_0_1_n_n none X W

theorem product_apply (X W : FVec Ideal S2048x2048 .f32) (i : S2048x2048.Idx) :
    product X W i = ∑ k : Fin 2048, X (ix2 (i 0) k) * W (ix2 k (i 1)) := by
  pointwise []

/-- Device `d` ends with column block `d` of the product of the whole arrays. -/
theorem outAt_eq (m : (ℓ : Loc nD τ sig) → Buf (Elt Ideal) ℓ) (X W : FVec Ideal S2048x2048 .f32)
    (hx : ∀ c, xAt m c = Layout.block S512x2048 S2048x2048 0 4 c X) (hw : ∀ c, wAt m c = W) (d : Dev nD) :
    outAt m d = Layout.block S2048x512 S2048x2048 1 4 d (product X W) := by
  funext i
  unfold outAt
  rw [rowBlock_apply m W hw, Layout.block_apply, product_apply]
  refine Finset.sum_congr rfl fun k _ => ?_
  rw [hx, Layout.block_apply, colsOf_apply]
  refine congrArg₂ (· * ·) (congrArg X (funext fun a => Fin.ext ?_)) (congrArg W (funext fun a => Fin.ext ?_))
  · match a with
    | 0 => show (i 0).val / 512 * 512 + (i 0).val % 512 = (i 0).val; omega
    | 1 => rfl
  · match a with
    | 0 => rfl
    | 1 => show 512 * d.val + (i 1).val = d.val * 512 + (i 1).val; omega

end Cert.Exchange

end
-- ==== Proof.lean ====
/-
# The claims

The run of the whole mesh is proved once, for any float values (`Cert.Exchange.run_arrays`). The two frames of the kernel
are that run with the result dropped, and the value claim is the run over the reals, with the result read as a column
block of the product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel and its idealization have one text: the same body under each label, -/
theorem bodies_same : Cert.Kernel.defs₀ (F := Bits) = Cert.KernelIdeal.defs₀ (F := Bits) := by
  refine congrArg Defs.onTc (funext fun l => ?_)
  match l with
  | 0 => funext ⟨t, s⟩; rfl
theorem defs_same : Cert.Kernel.defs (F := Bits) = Cert.KernelIdeal.defs (F := Bits) :=
  congrArg (Pipeline.defs _) bodies_same

/-- so the kernel's frame is the one run, on binary floats. -/
theorem frame_kernel : Cert.quiescent_Kernel := by
  intro m ρ _
  rw [defs_same]
  exact (θ_run Cert.KernelIdeal.defs _ _).mono (fun _ h => ⟨fun c => (h.1 c).2, h.2⟩)
    (Cert.Exchange.run_arrays (F := Bits) m ρ)

theorem frame_ideal : Cert.quiescent_KernelIdeal := fun m ρ _ =>
  (θ_run Cert.KernelIdeal.defs _ _).mono (fun _ h => ⟨fun c => (h.1 c).2, h.2⟩)
    (Cert.Exchange.run_arrays (F := Ideal) m ρ)

/-- The reference declares no semaphore: its counters can only be zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals each device ends with its column block of the reference's product. -/
theorem value : Cert.algebraic_KernelIdeal_ReferenceIdeal := fun m ρ m' ρ' _ agree =>
  ⟨Cert.Exchange.product _ _,
    (θ_run Cert.KernelIdeal.defs _ _).mono
      (fun _ h c => ⟨(h.1 c).1.trans (Cert.Exchange.outAt_eq m _ _
        (fun c => (Cert.Exchange.xAt_eq m c).trans (agree c).1) (fun c => (Cert.Exchange.wAt_eq m c).trans (agree c).2) c),
        (h.1 c).2⟩)
      (Cert.Exchange.run_arrays (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
